-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sums_below_2_24_KernelIdeal [hPre_sums_below_2_24_KernelIdeal : Cert.Pre_sums_below_2_24_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_sums_below_2_24_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sums_below_2_24_ReferenceIdeal [hPre_sums_below_2_24_ReferenceIdeal : Cert.Pre_sums_below_2_24_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sums_below_2_24_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sums_below_2_24_KernelIdeal [hKernelIdeal : Cert.KernelIdeal.Facts] [hPre_sums_below_2_24_KernelIdeal : Cert.Pre_sums_below_2_24_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sums_below_2_24_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sums_below_2_24_ReferenceIdeal [hReferenceIdeal : Cert.ReferenceIdeal.Facts] [hPre_sums_below_2_24_ReferenceIdeal : Cert.Pre_sums_below_2_24_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sums_below_2_24_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sums_below_2_24_KernelIdeal [hKernelIdeal : Cert.KernelIdeal.Facts] [hReferenceIdeal : Cert.ReferenceIdeal.Facts] [hPre_sums_below_2_24_KernelIdeal : Cert.Pre_sums_below_2_24_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sums_below_2_24_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sums_below_2_24_KernelIdeal : Cert.Pre_sums_below_2_24_KernelIdeal.Facts) (hPre_sums_below_2_24_ReferenceIdeal : Cert.Pre_sums_below_2_24_ReferenceIdeal.Facts),
    quiescent_Kernel (hKernel := hKernel)
    ∧ quiescent_KernelIdeal (hKernelIdeal := hKernelIdeal)
    ∧ quiescent_KernelIdeal_pre_sums_below_2_24_KernelIdeal (hKernelIdeal := hKernelIdeal) (hPre_sums_below_2_24_KernelIdeal := hPre_sums_below_2_24_KernelIdeal)
    ∧ quiescent_ReferenceIdeal (hReferenceIdeal := hReferenceIdeal)
    ∧ quiescent_ReferenceIdeal_pre_sums_below_2_24_ReferenceIdeal (hReferenceIdeal := hReferenceIdeal) (hPre_sums_below_2_24_ReferenceIdeal := hPre_sums_below_2_24_ReferenceIdeal)
    ∧ preserves_Kernel_KernelIdeal
    ∧ algebraic_KernelIdeal_ReferenceIdeal_pre_sums_below_2_24_KernelIdeal (hKernelIdeal := hKernelIdeal) (hReferenceIdeal := hReferenceIdeal) (hPre_sums_below_2_24_KernelIdeal := hPre_sums_below_2_24_KernelIdeal)
-- ==== Pre_sums_below_2_24_KernelIdeal.lean ====
abbrev S256x4096 : Shape := ⟨2, ![256, 4096]⟩
abbrev S4096x8192 : Shape := ⟨2, ![4096, 8192]⟩
abbrev S1 : Shape := ⟨1, ![1]⟩
abbrev S256x8192 : Shape := ⟨2, ![256, 8192]⟩
abbrev S_ : Shape := ⟨0, ![]⟩

class Facts : Prop where
  natLt_8_32 : 8 < 32
  bcast_S_S256x8192 : S_.BroadcastsInDim S256x8192 (![] : Fin 0 → Fin S256x8192.rank)
  dot_S256x4096_S4096x8192_S256x8192_1_0_0_1_n_n_wf : DotDims.WF S256x4096 S4096x8192 S256x8192 [1] [0] [0] [1] [] []

variable [Facts]

def dot_S256x4096_S4096x8192_S256x8192_1_0_0_1_n_n : DotDims S256x4096 S4096x8192 S256x8192 where
  lhsContracting := [1]
  rhsContracting := [0]
  lhsNonContracting := [0]
  rhsNonContracting := [1]
  lhsBatch := []
  rhsBatch := []
  wf := dot_S256x4096_S4096x8192_S256x8192_1_0_0_1_n_n_wf
def fn {F : FTy → Type} [FloatOps F] (main_arg0 : IVec S256x4096 8) (main_arg1 : IVec S4096x8192 8) (main_arg2 : FVec F S1 .f32) (main_arg3 : FVec F S1 .f32) : IVec S256x8192 1 :=
  let main_v0 : IVec S256x4096 32 := (extsi 32 · natLt_8_32) main_arg0
  let main_v1 : FVec F S256x4096 .f32 := sitofp .f32 main_v0
  let main_v2 : FVec F S256x4096 .f32 := Host.absf main_v1
  let main_v3 : IVec S4096x8192 32 := (extsi 32 · natLt_8_32) main_arg1
  let main_v4 : FVec F S4096x8192 .f32 := sitofp .f32 main_v3
  let main_v5 : FVec F S4096x8192 .f32 := Host.absf main_v4
  let main_v6 : FVec F S256x8192 .f32 := (fun l r => Host.dotGeneral dot_S256x4096_S4096x8192_S256x8192_1_0_0_1_n_n none l r) main_v2 main_v5
  let main_cst : FVec F S_ .f32 := constant S_ .f32 0x4B800000#32
  let main_v7 : FVec F S256x8192 .f32 := broadcastInDim S256x8192 ![] bcast_S_S256x8192 main_cst
  let main_v8 : IVec S256x8192 1 := cmpf .olt main_v6 main_v7
  main_v8
-- ==== Pre_sums_below_2_24_ReferenceIdeal.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩

class Facts : Prop where
  natLt_8_32 : 8 < 32
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : IVec S4096x4096 8) (main_arg1 : IVec S4096x8192 8) (main_arg2 : FVec F S1 .f32) (main_arg3 : FVec F S1 .f32) : IVec S4096x8192 1 :=
  let main_v0 : IVec S4096x4096 32 := (extsi 32 · natLt_8_32) main_arg0
  let main_v1 : FVec F S4096x4096 .f32 := sitofp .f32 main_v0
  let main_v2 : FVec F S4096x4096 .f32 := Host.absf main_v1
  let main_v3 : IVec S4096x8192 32 := (extsi 32 · natLt_8_32) main_arg1
  let main_v4 : FVec F S4096x8192 .f32 := sitofp .f32 main_v3
  let main_v5 : FVec F S4096x8192 .f32 := Host.absf main_v4
  let main_v6 : FVec F S4096x8192 .f32 := (fun l r => Host.dotGeneral dot_S4096x4096_S4096x8192_S4096x8192_1_0_0_1_n_n none l r) main_v2 main_v5
  let main_cst : FVec F S_ .f32 := constant S_ .f32 0x4B800000#32
  let main_v7 : FVec F S4096x8192 .f32 := broadcastInDim S4096x8192 ![] bcast_S_S4096x8192 main_cst
  let main_v8 : IVec S4096x8192 1 := cmpf .olt main_v6 main_v7
  main_v8
-- ==== Kernel.lean ====
abbrev S256x4096 : Shape := ⟨2, ![256, 4096]⟩
abbrev S4096x8192 : Shape := ⟨2, ![4096, 8192]⟩
abbrev S1 : Shape := ⟨1, ![1]⟩
abbrev S4096x512 : Shape := ⟨2, ![4096, 512]⟩
abbrev S4x4096x512 : Shape := ⟨3, ![4, 4096, 512]⟩
abbrev S16x256x512 : Shape := ⟨3, ![16, 256, 512]⟩
abbrev S4 : Shape := ⟨1, ![4]⟩
abbrev S16 : Shape := ⟨1, ![16]⟩
abbrev S_ : Shape := ⟨0, ![]⟩
abbrev S1x4096x512 : Shape := ⟨3, ![1, 4096, 512]⟩
abbrev S256x512 : Shape := ⟨2, ![256, 512]⟩
abbrev S1x256x512 : Shape := ⟨3, ![1, 256, 512]⟩

abbrev nBuf : Space → Nat
  | .hbm => 5
  | .vmem => 5
  | .smem => 2
  | _ => 0

abbrev bufTy : (tb : Table) → Fin (tcTables nBuf tb) → BufTy
  | .hbm, ⟨0, _⟩ => ⟨S256x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S256x4096, .i8⟩
  | .local _ .vmem, ⟨1, _⟩ => ⟨S4096x512, .f32⟩
  | .local _ .vmem, ⟨2, _⟩ => ⟨S4x4096x512, .i8⟩
  | .local _ .vmem, ⟨3, _⟩ => ⟨S16x256x512, .bf16⟩
  | .local _ .vmem, ⟨4, _⟩ => ⟨S4096x512, .bf16⟩
  | .local _ .smem, ⟨0, _⟩ => ⟨S1, .f32⟩
  | .local _ .smem, ⟨1, _⟩ => ⟨S1, .f32⟩
  | _, _ => ⟨S256x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v9 : BitVec 32 := Scalar.addi v2 c1_i32_3
  let c16_i32_4 : BitVec 32 := 16#32
  let v10 : BitVec 32 := Scalar.remsi v9 c16_i32_4
  v10.toNat
def k0_dev2 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v11 : BitVec 32 := Scalar.addi v2 c2_i32
  let c16_i32_6 : BitVec 32 := 16#32
  let v12 : BitVec 32 := Scalar.remsi v11 c16_i32_6
  v12.toNat
def k0_dev3 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c16_i32_8 : BitVec 32 := 16#32
  let v14 : BitVec 32 := Scalar.remsi v13 c16_i32_8
  v14.toNat
def k0_dev4 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v15 : BitVec 32 := Scalar.addi v2 c4_i32
  let c16_i32_10 : BitVec 32 := 16#32
  let v16 : BitVec 32 := Scalar.remsi v15 c16_i32_10
  v16.toNat
def k0_dev5 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v17 : BitVec 32 := Scalar.addi v2 c5_i32
  let c16_i32_12 : BitVec 32 := 16#32
  let v18 : BitVec 32 := Scalar.remsi v17 c16_i32_12
  v18.toNat
def k0_dev6 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v19 : BitVec 32 := Scalar.addi v2 c6_i32
  let c16_i32_14 : BitVec 32 := 16#32
  let v20 : BitVec 32 := Scalar.remsi v19 c16_i32_14
  v20.toNat
def k0_dev7 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v21 : BitVec 32 := Scalar.addi v2 c7_i32
  let c16_i32_16 : BitVec 32 := 16#32
  let v22 : BitVec 32 := Scalar.remsi v21 c16_i32_16
  v22.toNat
def k0_dev8 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v23 : BitVec 32 := Scalar.addi v2 c8_i32
  let c16_i32_18 : BitVec 32 := 16#32
  let v24 : BitVec 32 := Scalar.remsi v23 c16_i32_18
  v24.toNat
def k0_dev9 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v25 : BitVec 32 := Scalar.addi v2 c9_i32
  let c16_i32_20 : BitVec 32 := 16#32
  let v26 : BitVec 32 := Scalar.remsi v25 c16_i32_20
  v26.toNat
def k0_dev10 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v27 : BitVec 32 := Scalar.addi v2 c10_i32
  let c16_i32_22 : BitVec 32 := 16#32
  let v28 : BitVec 32 := Scalar.remsi v27 c16_i32_22
  v28.toNat
def k0_dev11 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v29 : BitVec 32 := Scalar.addi v2 c11_i32
  let c16_i32_24 : BitVec 32 := 16#32
  let v30 : BitVec 32 := Scalar.remsi v29 c16_i32_24
  v30.toNat
def k0_dev12 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v31 : BitVec 32 := Scalar.addi v2 c12_i32
  let c16_i32_26 : BitVec 32 := 16#32
  let v32 : BitVec 32 := Scalar.remsi v31 c16_i32_26
  v32.toNat
def k0_dev13 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v33 : BitVec 32 := Scalar.addi v2 c13_i32
  let c16_i32_28 : BitVec 32 := 16#32
  let v34 : BitVec 32 := Scalar.remsi v33 c16_i32_28
  v34.toNat
def k0_dev14 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v35 : BitVec 32 := Scalar.addi v2 c14_i32
  let c16_i32_30 : BitVec 32 := 16#32
  let v36 : BitVec 32 := Scalar.remsi v35 c16_i32_30
  v36.toNat
def k0_dev15 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v37 : BitVec 32 := Scalar.addi v2 c15_i32
  let c16_i32_32 : BitVec 32 := 16#32
  let v38 : BitVec 32 := Scalar.remsi v37 c16_i32_32
  v38.toNat
def k0_off1 (d0 : Dev nD) (c0_i32 : BitVec 32) : Fin 2 → Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v39 : BitVec 32 := Scalar.addi v2 c0_i32
  let c16_i32_35 : BitVec 32 := 16#32
  let v40 : BitVec 32 := Scalar.remsi v39 c16_i32_35
  let c512_i32 : BitVec 32 := 512#32
  let v41 : BitVec 32 := Scalar.muli v40 c512_i32
  ![0, v41.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v85 : BitVec 32 := Scalar.muli v2 c256_i32
  let v86 : Index := Scalar.indexCast v85
  let c0_76 : Index := 0#32
  ![v86.toNat, 0]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_99 : BitVec 32 := 256#32
  let v114 : BitVec 32 := Scalar.muli v2 c256_i32_99
  let c0_i32_102 : BitVec 32 := 0#32
  ![v114.toNat, 0]
def k0_dev16 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_77 : BitVec 32 := 1#32
  let v88 : BitVec 32 := Scalar.addi v2 c1_i32_77
  let c16_i32_78 : BitVec 32 := 16#32
  let v89 : BitVec 32 := Scalar.remsi v88 c16_i32_78
  v89.toNat
def k0_dev17 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_105 : BitVec 32 := 2#32
  let v122 : BitVec 32 := Scalar.addi v2 c2_i32_105
  let c16_i32_106 : BitVec 32 := 16#32
  let v123 : BitVec 32 := Scalar.remsi v122 c16_i32_106
  v123.toNat
def k0_dev18 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_133 : BitVec 32 := 3#32
  let v156 : BitVec 32 := Scalar.addi v2 c3_i32_133
  let c16_i32_134 : BitVec 32 := 16#32
  let v157 : BitVec 32 := Scalar.remsi v156 c16_i32_134
  v157.toNat
def k0_dev19 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_161 : BitVec 32 := 4#32
  let v190 : BitVec 32 := Scalar.addi v2 c4_i32_161
  let c16_i32_162 : BitVec 32 := 16#32
  let v191 : BitVec 32 := Scalar.remsi v190 c16_i32_162
  v191.toNat
def k0_dev20 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_189 : BitVec 32 := 5#32
  let v224 : BitVec 32 := Scalar.addi v2 c5_i32_189
  let c16_i32_190 : BitVec 32 := 16#32
  let v225 : BitVec 32 := Scalar.remsi v224 c16_i32_190
  v225.toNat
def k0_dev21 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_217 : BitVec 32 := 6#32
  let v258 : BitVec 32 := Scalar.addi v2 c6_i32_217
  let c16_i32_218 : BitVec 32 := 16#32
  let v259 : BitVec 32 := Scalar.remsi v258 c16_i32_218
  v259.toNat
def k0_dev22 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_245 : BitVec 32 := 7#32
  let v292 : BitVec 32 := Scalar.addi v2 c7_i32_245
  let c16_i32_246 : BitVec 32 := 16#32
  let v293 : BitVec 32 := Scalar.remsi v292 c16_i32_246
  v293.toNat
def k0_dev23 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_273 : BitVec 32 := 8#32
  let v326 : BitVec 32 := Scalar.addi v2 c8_i32_273
  let c16_i32_274 : BitVec 32 := 16#32
  let v327 : BitVec 32 := Scalar.remsi v326 c16_i32_274
  v327.toNat
def k0_dev24 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_301 : BitVec 32 := 9#32
  let v360 : BitVec 32 := Scalar.addi v2 c9_i32_301
  let c16_i32_302 : BitVec 32 := 16#32
  let v361 : BitVec 32 := Scalar.remsi v360 c16_i32_302
  v361.toNat
def k0_dev25 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_329 : BitVec 32 := 10#32
  let v394 : BitVec 32 := Scalar.addi v2 c10_i32_329
  let c16_i32_330 : BitVec 32 := 16#32
  let v395 : BitVec 32 := Scalar.remsi v394 c16_i32_330
  v395.toNat
def k0_dev26 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_357 : BitVec 32 := 11#32
  let v428 : BitVec 32 := Scalar.addi v2 c11_i32_357
  let c16_i32_358 : BitVec 32 := 16#32
  let v429 : BitVec 32 := Scalar.remsi v428 c16_i32_358
  v429.toNat
def k0_dev27 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_385 : BitVec 32 := 12#32
  let v462 : BitVec 32 := Scalar.addi v2 c12_i32_385
  let c16_i32_386 : BitVec 32 := 16#32
  let v463 : BitVec 32 := Scalar.remsi v462 c16_i32_386
  v463.toNat
def k0_dev28 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_413 : BitVec 32 := 13#32
  let v496 : BitVec 32 := Scalar.addi v2 c13_i32_413
  let c16_i32_414 : BitVec 32 := 16#32
  let v497 : BitVec 32 := Scalar.remsi v496 c16_i32_414
  v497.toNat
def k0_dev29 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_433 : BitVec 32 := 14#32
  let v522 : BitVec 32 := Scalar.addi v2 c14_i32_433
  let c16_i32_434 : BitVec 32 := 16#32
  let v523 : BitVec 32 := Scalar.remsi v522 c16_i32_434
  v523.toNat
def k0_dev30 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_453 : BitVec 32 := 15#32
  let v548 : BitVec 32 := Scalar.addi v2 c15_i32_453
  let c16_i32_454 : BitVec 32 := 16#32
  let v549 : BitVec 32 := Scalar.remsi v548 c16_i32_454
  v549.toNat
def k0_off5 (d0 : Dev nD) (c1_i32_473 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v574 : BitVec 32 := Scalar.subi v2 c1_i32_473
  let c16_i32_474 : BitVec 32 := 16#32
  let v575 : BitVec 32 := Scalar.addi v574 c16_i32_474
  let c16_i32_475 : BitVec 32 := 16#32
  let v576 : BitVec 32 := Scalar.remsi v575 c16_i32_475
  ![v576.toNat]
def k0_off6 (d0 : Dev nD) (c1_i32_473 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v574 : BitVec 32 := Scalar.subi v2 c1_i32_473
  let c16_i32_474 : BitVec 32 := 16#32
  let v575 : BitVec 32 := Scalar.addi v574 c16_i32_474
  let c16_i32_475 : BitVec 32 := 16#32
  let v576 : BitVec 32 := Scalar.remsi v575 c16_i32_475
  let c256_i32_476 : BitVec 32 := 256#32
  let v577 : BitVec 32 := Scalar.muli v576 c256_i32_476
  let c0_i32_479 : BitVec 32 := 0#32
  ![v577.toNat, 0]
def k0_off7 (d0 : Dev nD) (c1_i32_473 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v574 : BitVec 32 := Scalar.subi v2 c1_i32_473
  let c16_i32_474 : BitVec 32 := 16#32
  let v575 : BitVec 32 := Scalar.addi v574 c16_i32_474
  let c16_i32_475 : BitVec 32 := 16#32
  let v576 : BitVec 32 := Scalar.remsi v575 c16_i32_475
  let c256_i32_482 : BitVec 32 := 256#32
  let v583 : BitVec 32 := Scalar.muli v576 c256_i32_482
  let v584 : Index := Scalar.indexCast v583
  let c0_483 : Index := 0#32
  ![v584.toNat, 0]
abbrev stage0_0 : Fin 1 → Memref sig .tc .vmem S256x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Prog.lean ====
/-
The body of the exchange kernel, re-told as five loops over the sixteen phases.

The printed body is one straight line of statements, cut into parts by count. Here the same operations are grouped
by what they do — signal a peer, start the copy of a block of columns of `w_mat`, work on a block that has landed,
take in a peer's block, wait for one's own send — each group written once at a symbolic phase, and the body is shown
to be their sequence (`body_eq`).
-/
module

public import proofs.«01_k».proof.Proof.Gen.KernelIdeal
public import proofs.«01_k».proof.Proof.Gen.KernelIdeal.Skeleton
public import Idealize.ShloMosaic.Lib.Tactic

@[expose] public section

noncomputable section

namespace Cert.Exchange

open Cert.KernelIdeal Cert.KernelIdeal.Gen
open Idealize.ShloMosaic Idealize.ShloMosaic.TcCoe
open Idealize.SL.Sem

variable {F : FTy → Type} [FloatOps F]

/-! ## The buffers -/

abbrev xM : Memref sig .tc .vmem S256x4096 .i8 := Memref.whole cc0_stg0_0
abbrev wA : Memref sig .tc .hbm S4096x8192 .i8 := Memref.whole main_arg1
abbrev aM : Memref sig .tc .smem S1 .f32 := Memref.whole cc0_stg1_0
abbrev bM : Memref sig .tc .smem S1 .f32 := Memref.whole cc0_stg2_0
abbrev oM : Memref sig .tc .vmem S4096x512 .f32 := Memref.whole cc0_stg3_0
abbrev wM : Memref sig .tc .vmem S4x4096x512 .i8 := Memref.whole cc0_scratch0
abbrev yM : Memref sig .tc .vmem S16x256x512 .bf16 := Memref.whole cc0_scratch1
abbrev cM : Memref sig .tc .vmem S4096x512 .bf16 := Memref.whole cc0_scratch2

/-! ## Slots and semaphores at a symbolic index -/

theorem inb_w : ∀ r : Fin 4, ∀ a, (![r.val, 0, 0] : Fin 3 → Nat) a + S1x4096x512.size a ≤ S4x4096x512.size a := by decide
theorem inb_y : ∀ s : Fin 16, ∀ a, (![s.val, 0, 0] : Fin 3 → Nat) a + S1x256x512.size a ≤ S16x256x512.size a := by decide
theorem inb_s4 : ∀ r : Fin 4, ∀ a, (![r.val] : Fin 1 → Nat) a + S1.size a ≤ S4.size a := by decide
theorem inb_s16 : ∀ r : Fin 16, ∀ a, (![r.val] : Fin 1 → Nat) a + S1.size a ≤ S16.size a := by decide

abbrev wR (r : Fin 4) : Rect S4x4096x512 := Rect.unit (s := S4x4096x512) ![r.val, 0, 0] S1x4096x512.size (inb_w r)
abbrev yR (s : Fin 16) : Rect S16x256x512 := Rect.unit (s := S16x256x512) ![s.val, 0, 0] S1x256x512.size (inb_y s)
abbrev colR (c : Dev nD) (s : Fin 16) : Rect S4096x8192 :=
  Rect.unit (s := S4096x8192) (k0_off1 c (BitVec.ofNat 32 s.val)) S4096x512.size (k0_off1_inb c s)

theorem words_w : ∀ r : Fin 4, (wR r).WholeWords (EltTy.packing .i8) := by decide
theorem words_y : ∀ s : Fin 16, (yR s).WholeWords (EltTy.packing .bf16) := by decide
theorem packed_y : ∀ s : Fin 16, (yR s).PackedRows (EltTy.packing .bf16) := by decide

/-- The slot of the ring that block `s` lands in. -/
def slotOf (s : Fin 16) : Fin 4 := ⟨s.val % 4, Nat.mod_lt _ (by decide)⟩

abbrev wSlot (r : Fin 4) : Memref sig .tc .vmem S4096x512 .i8 := (wM.slice (wR r) (fun _ => rfl)).squeeze S4096x512 squeezes_S1x4096x512_S4096x512
abbrev wCol (c : Dev nD) (s : Fin 16) : Memref sig .tc .hbm S4096x512 .i8 := wA.slice (colR c s) (fun _ => rfl)
abbrev ySlot (s : Fin 16) : Memref sig .tc .vmem S256x512 .bf16 := (yM.slice (yR s) (fun _ => rfl)).squeeze S256x512 squeezes_S1x256x512_S256x512
/-- The rows of `comm_ref` that device `c`'s blocks land in. -/
abbrev cRows (c : Dev nD) : Memref sig .tc .vmem S256x512 .bf16 :=
  cM.slice (Rect.unit (s := S4096x512) (k0_off4 c) S256x512.size (k0_off4_inb c)) (fun _ => rfl)

abbrev barS : Sem sig := (SemArray.scalar (sig.barrier 0 rfl) : Sems sig S_).sem
abbrev wSem (r : Fin 4) : DmaSem sig := ((cc0_scratch3.slice (Rect.unit (s := S4) ![r.val] S1.size (inb_s4 r))).squeeze S_ squeezes_S1_S_).sem
abbrev sendSem (s : Fin 16) : DmaSem sig := ((cc0_scratch4.slice (Rect.unit (s := S16) ![s.val] S1.size (inb_s16 s))).squeeze S_ squeezes_S1_S_).sem
/-- The semaphore that device `c`'s block counts up on the device it arrives at. -/
abbrev recvSemOf (c : Dev nD) : DmaSem sig := ((cc0_scratch5.slice (Rect.unit (s := S16) (k0_off3 c) S1.size (k0_off3_inb c))).squeeze S_ squeezes_S1_S_).sem

/-! ## The peers named by the signals and the sends -/

/-- The device that the `s`-th signal names. -/
def sigDev (c : Dev nD) : Fin 16 → Dev nD
  | 1 => ⟨k0_dev1 c, k0_dev1_lt c⟩ | 2 => ⟨k0_dev2 c, k0_dev2_lt c⟩ | 3 => ⟨k0_dev3 c, k0_dev3_lt c⟩
  | 4 => ⟨k0_dev4 c, k0_dev4_lt c⟩ | 5 => ⟨k0_dev5 c, k0_dev5_lt c⟩ | 6 => ⟨k0_dev6 c, k0_dev6_lt c⟩
  | 7 => ⟨k0_dev7 c, k0_dev7_lt c⟩ | 8 => ⟨k0_dev8 c, k0_dev8_lt c⟩ | 9 => ⟨k0_dev9 c, k0_dev9_lt c⟩
  | 10 => ⟨k0_dev10 c, k0_dev10_lt c⟩ | 11 => ⟨k0_dev11 c, k0_dev11_lt c⟩ | 12 => ⟨k0_dev12 c, k0_dev12_lt c⟩
  | 13 => ⟨k0_dev13 c, k0_dev13_lt c⟩ | 14 => ⟨k0_dev14 c, k0_dev14_lt c⟩ | 15 => ⟨k0_dev15 c, k0_dev15_lt c⟩
  | _ => c

/-- The device that the `s`-th send names. -/
def sendDev (c : Dev nD) : Fin 16 → Dev nD
  | 1 => ⟨k0_dev16 c, k0_dev16_lt c⟩ | 2 => ⟨k0_dev17 c, k0_dev17_lt c⟩ | 3 => ⟨k0_dev18 c, k0_dev18_lt c⟩
  | 4 => ⟨k0_dev19 c, k0_dev19_lt c⟩ | 5 => ⟨k0_dev20 c, k0_dev20_lt c⟩ | 6 => ⟨k0_dev21 c, k0_dev21_lt c⟩
  | 7 => ⟨k0_dev22 c, k0_dev22_lt c⟩ | 8 => ⟨k0_dev23 c, k0_dev23_lt c⟩ | 9 => ⟨k0_dev24 c, k0_dev24_lt c⟩
  | 10 => ⟨k0_dev25 c, k0_dev25_lt c⟩ | 11 => ⟨k0_dev26 c, k0_dev26_lt c⟩ | 12 => ⟨k0_dev27 c, k0_dev27_lt c⟩
  | 13 => ⟨k0_dev28 c, k0_dev28_lt c⟩ | 14 => ⟨k0_dev29 c, k0_dev29_lt c⟩ | 15 => ⟨k0_dev30 c, k0_dev30_lt c⟩
  | _ => c

/-! ## The groups of operations -/

/-- A program of the kernel's. -/
abbrev KProg (α : Type) : Type 1 := Prog (TpuEff nD τ sig (Elt F) Λ₀ .tc) α

/-- Signal the `s`-th peer's barrier semaphore. -/
def signalStep (c : Dev nD) (s : Fin 16) : KProg (F := F) PUnit := semSignalWord (sigDev c s) barS 1#32

/-- Start the copy of block `s` of the columns of `w_mat` into its ring slot. -/
def startStep (c : Dev nD) (s : Fin 16) : KProg (F := F) PUnit :=
  Prog.lift (.enqueueDma (wCol c s) (.here (wSlot (slotOf s))) (.dma (wSem (slotOf s)))
    ((Memref.isWhole_whole main_arg1).wordExact_slice rfl _ (k0_off1_wordsi8 c s))
    (((Memref.isWhole_whole cc0_scratch0).wordExact_slice rfl _ (words_w (slotOf s))).reshape _ _) ⟨Or.inl rfl, trivial⟩)

/-- Wait for block `s` and load it. -/
def fetchStep (c : Dev nD) (s : Fin 16) : KProg (F := F) (Vec F S1x4096x512 .i8) := do
  Prog.lift (.waitDma2 (wSem (slotOf s)) (wCol c s) (wSlot (slotOf s))
    ((Memref.isWhole_whole main_arg1).wordExact_slice rfl _ (k0_off1_wordsi8 c s))
    (((Memref.isWhole_whole cc0_scratch0).wordExact_slice rfl _ (words_w (slotOf s))).reshape _ _))
  Prog.lift (.load wM (wR (slotOf s)).toLoadRect (View.loadsAt_vmem h_S1x4096x512))

/-- Keep the product with block 0, whose rows of the result are the device's own. -/
def keepStep (c : Dev nD) (sc : F .f32) (x : IVec S256x4096 8) (v : Vec F S1x4096x512 .i8) : KProg (F := F) PUnit := do
  let _ : Vec F S256x512 .f32 ← Prog.lift (.load oM (Rect.unit (s := S4096x512) (k0_off2 c) S256x512.size (k0_off2_inb c)).toLoadRect (View.loadsAt_vmem h_S256x512))
  Prog.lift (.store oM (Rect.unit (s := S4096x512) (k0_off2 c) S256x512.size (k0_off2_inb c)) (k0_pay3 sc x v) Finset.univ
    (View.stores_vmem_bits_univ h_S256x512 rfl) (.inl rfl))

/-- Stage the product with block `s` and send it to the device whose rows these are. -/
def sendStep (c : Dev nD) (sc : F .f32) (x : IVec S256x4096 8) (s : Fin 16) (v : Vec F S1x4096x512 .i8) : KProg (F := F) PUnit := do
  let _ : Vec F S1x256x512 .bf16 ← Prog.lift (.load yM (yR s).toLoadRect (View.loadsAt_vmem h_S1x256x512))
  Prog.lift (.store yM (yR s) (k0_pay4 sc x v) Finset.univ
    (View.stores_vmem h_S1x256x512 ((Memref.isWhole_whole cc0_scratch1).storeExact_slice rfl _ (packed_y s)) (fun _ => rfl)) (.inl rfl))
  Prog.lift (.enqueueDma (ySlot s) (.remote (Dev.tc (sendDev c s)) (cRows c) (.dma (sendSem s))) (.dma (recvSemOf c))
    (((Memref.isWhole_whole cc0_scratch1).wordExact_slice rfl _ (words_y s)).reshape _ _)
    ((Memref.isWhole_whole cc0_scratch2).wordExact_slice rfl _ (k0_off4_wordsbf16 c)) ⟨⟨rfl, Or.inl rfl⟩, trivial⟩)

/-- Fetch block `s`, stage its product, send it. -/
def workStep (c : Dev nD) (sc : F .f32) (x : IVec S256x4096 8) (s : Fin 16) : KProg (F := F) PUnit := do
  let v ← fetchStep c s
  sendStep c sc x s v

/-- A phase that also starts the copy three blocks ahead. -/
def aheadStep (c : Dev nD) (sc : F .f32) (x : IVec S256x4096 8) (s : Fin 16) : KProg (F := F) PUnit := do
  startStep c (s + 3)
  workStep c sc x s

/-- Wait for the block of the `r`-th sender and convert it into its rows of the result. -/
def recvStep (c : Dev nD) (r : Fin 15) : KProg (F := F) PUnit := do
  Prog.lift (.waitDma2 ((cc0_scratch5.slice (Rect.unit (s := S16) (k0_off5 c (BitVec.ofNat 32 (1 + r.val))) S1.size (k0_off5_inb c r))).squeeze S_ squeezes_S1_S_).sem
    (ySlot 0) (cM.slice (Rect.unit (s := S4096x512) (k0_off6 c (BitVec.ofNat 32 (1 + r.val))) S256x512.size (k0_off6_inb c r)) (fun _ => rfl))
    (((Memref.isWhole_whole cc0_scratch1).wordExact_slice rfl _ (words_y 0)).reshape _ _)
    ((Memref.isWhole_whole cc0_scratch2).wordExact_slice rfl _ (k0_off6_wordsbf16 c r)))
  let v : Vec F S256x512 .bf16 ← Prog.lift (.load cM (Rect.unit (s := S4096x512) (k0_off7 c (BitVec.ofNat 32 (1 + r.val))) S256x512.size (k0_off7_inb c r)).toLoadRect (View.loadsAt_vmem h_S256x512))
  let _ : Vec F S256x512 .f32 ← Prog.lift (.load oM (Rect.unit (s := S4096x512) (k0_off7 c (BitVec.ofNat 32 (1 + r.val))) S256x512.size (k0_off7_inb c r)).toLoadRect (View.loadsAt_vmem h_S256x512))
  Prog.lift (.store oM (Rect.unit (s := S4096x512) (k0_off7 c (BitVec.ofNat 32 (1 + r.val))) S256x512.size (k0_off7_inb c r)) (k0_pay23 v) Finset.univ
    (View.stores_vmem_bits_univ h_S256x512 rfl) (.inl rfl))

/-- Wait until the `s`-th send has been taken out of its staging slot. -/
def drainStep (c : Dev nD) (s : Fin 16) : KProg (F := F) PUnit :=
  Prog.lift (.waitDma2 (sendSem s) (cRows c) (ySlot s)
    ((Memref.isWhole_whole cc0_scratch2).wordExact_slice rfl _ (k0_off4_wordsbf16 c))
    (((Memref.isWhole_whole cc0_scratch1).wordExact_slice rfl _ (words_y s)).reshape _ _))

/-- A step for each member of a list, in order. -/
def steps {I : Type} (f : I → KProg (F := F) PUnit) : List I → KProg (F := F) PUnit
  | [] => pure ⟨⟩
  | i :: l => do f i; steps f l

abbrev peers : List (Fin 16) := [1, 2, 3, 4, 5, 6, 7, 8, 9, 10, 11, 12, 13, 14, 15]
abbrev senders : List (Fin 15) := [0, 1, 2, 3, 4, 5, 6, 7, 8, 9, 10, 11, 12, 13, 14]

/-- What device `c` runs from its operands in registers: its scale and its rows of `x`. -/
def afterLoads (c : Dev nD) (sc : F .f32) (x : IVec S256x4096 8) : KProg (F := F) PUnit := do
  steps (signalStep c) peers
  semWaitWord barS 15#32
  startStep c 0
  startStep c 1
  startStep c 2
  startStep c 3
  let v ← fetchStep c 0
  keepStep c sc x v
  steps (aheadStep c sc x) [1, 2, 3, 4, 5, 6, 7, 8, 9, 10, 11, 12]
  steps (workStep c sc x) [13, 14, 15]
  steps (recvStep c) senders
  steps (drainStep c) peers

/-- The whole body. -/
def body : KProg (F := F) PUnit := do
  let c : Dev nD ← Prog.lift .deviceId
  let a : Elt F .f32 ← smemLoad aM (Rect.unit (s := S1) ![0] S1.size inb_S1_S1_0) numel1_S1 rfl
  let b : Elt F .f32 ← smemLoad bM (Rect.unit (s := S1) ![0] S1.size inb_S1_S1_0) numel1_S1 rfl
  let x : Vec F S256x4096 .i8 ← Prog.lift (.load xM (Rect.unit (s := S256x4096) ![0, 0] S256x4096.size inb_S256x4096_S256x4096_0_0).toLoadRect (View.loadsAt_vmem h_S256x4096))
  afterLoads c (k0_pay1 a b) (k0_pay2 x)

set_option maxRecDepth 65536 in
set_option maxHeartbeats 4000000 in
/-- The printed body is that sequence. -/
theorem body_eq :
    cc0_body (F := F) xM (Memref.isWhole_whole _) wA (Memref.isWhole_whole _) aM (Memref.isWhole_whole _) bM (Memref.isWhole_whole _)
      oM (Memref.isWhole_whole _) wM (Memref.isWhole_whole _) yM (Memref.isWhole_whole _) cM (Memref.isWhole_whole _)
      cc0_scratch3 cc0_scratch4 cc0_scratch5 = body := by
  rw [cc0_body_eq_skeleton]
  rfl

end Cert.Exchange

end
-- ==== Proof.Parts.lean ====
/-
Ownership of the parts of the kernel's buffers: a load or a store through one rectangle, a buffer taken apart into the
sixteen row blocks, column blocks or slots that the kernel addresses one at a time, and put together again; and the rule
for a run of steps over consecutive indices.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Ring

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The logic's instance: one copy of the rounds library for the staging, one for the exchange -/

/-- The names of the duties of one round of a cell: a device, or `0` where there is only one. -/
abbrev Duty : Type := Fin 16
abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Core `c` runs `p` to `Q`. -/
abbrev run (c : Dev nD) {α : Type} (p : KProg (F := F) α) (Q : α → sProp 𝕄) : sProp 𝕄 :=
  wp frame (wpE (defs₀ (F := F)) 𝒱₀ (c : Thread nD τ) none) Set.univ p Q

theorem run_bind (c : Dev nD) {α β : Type} (p : KProg (F := F) α) (k : α → KProg (F := F) β) (Q : β → sProp 𝕄) :
    run c (p >>= k) Q = run c p fun a => run c (k a) Q := wp_bind frame _ Set.univ p k Q

theorem run_wand (c : Dev nD) {α : Type} {p : KProg (F := F) α} (Q : α → sProp 𝕄) {Q' : α → sProp 𝕄} :
    iprop(run c p Q ∗ (∀ a, Q a -∗ Q' a)) ⊢ run c p Q' := wp_wand_r frame _ Set.univ

theorem run_pure (c : Dev nD) {α : Type} (a : α) {Q : α → sProp 𝕄} : Q a ⊢ run c (pure a) Q := fupd_intro (PROP := sProp 𝕄)

/-! ## Loads and stores through a rectangle owned by itself -/

section Access

variable (c : Dev nD) {cs : CoreSpace} {s : Shape} {e : EltTy} (m : Memref sig .tc cs s e) (r : Rect s) (hr : ∀ a, r.stride a = 1)
  {α : Type}

theorem own_load {q : PosShare TreeShare} (X : r.shape.Idx → Elt F e) {hl : m.view.LoadsAt r.toLoadRect} {k : (r.shape.Idx → Elt F e) → KProg (F := F) α} {Q : α → sProp 𝕄} :
    (owns (c : Thread nD τ) (m.slice r hr) q X : sProp 𝕄)
      ⊢ iprop((owns (c : Thread nD τ) (m.slice r hr) q X -∗ run c (k X) Q) -∗ run c (.op (.load m r.toLoadRect hl) k) Q) := by
  unfold owns
  iintro ⟨%f, %hf, H⟩ Hk
  iapply (wp_load_rect 𝒱₀ (c : Thread nD τ) none Set.univ (m := m) (r := r) (Finset.Subset.refl _)) $$ H
  iintro H
  subst hf
  iapply Hk
  iexists f
  isplitr; · ipureintro; rfl
  iexact H

theorem own_store {X : r.shape.Idx → Elt F e} (w : r.shape.Idx → Elt F e) {hx : (m.access r).Stores Finset.univ}
    {hm : (Finset.univ : Finset r.shape.Idx) = Finset.univ ∨ ∀ a, r.stride a = 1} {k : PUnit → KProg (F := F) α} {Q : α → sProp 𝕄} :
    (owns (c : Thread nD τ) (m.slice r hr) fullShare X : sProp 𝕄)
      ⊢ iprop((owns (c : Thread nD τ) (m.slice r hr) fullShare w -∗ run c (k ⟨⟩) Q) -∗ run c (.op (.store m r w Finset.univ hx hm) k) Q) := by
  unfold owns
  iintro ⟨%f, %hf, H⟩ Hk
  iapply (wp_store 𝒱₀ (c : Thread nD τ) none Set.univ (m := m) (r := r) (Mk := Finset.univ) (f := f) (S := (m.slice r hr).view.set)
    (View.setOn_subset_set _ _)) $$ H
  iintro H
  iapply Hk
  iexists _
  isplitr
  swap
  · iexact H
  · ipureintro; exact View.read_write_univ _ _

end Access

/-! ## Runs of steps -/

/-- A proposition for each member of a list. -/
def each {I : Type} (l : List I) (Φ : I → sProp 𝕄) : sProp 𝕄 :=
  match l with
  | [] => iprop(emp)
  | i :: l => iprop(Φ i ∗ each l Φ)

theorem each_cons {I : Type} (Φ : I → sProp 𝕄) (i : I) (l : List I) : each (F := F) (i :: l) Φ = iprop(Φ i ∗ each (F := F) l Φ) := rfl
theorem each_nil {I : Type} (Φ : I → sProp 𝕄) : each (F := F) [] Φ = iprop(emp) := rfl

theorem each_bigSep {I : Type} [DecidableEq I] (Φ : I → sProp 𝕄) (l : List I) (h : l.Nodup) : bigSep l.toFinset Φ = each (F := F) l Φ := by
  induction l with
  | nil => rw [List.toFinset_nil, bigSep_empty]; rfl
  | cons i l ih =>
    rw [List.toFinset_cons, bigSep_insert (fun hi => (List.nodup_cons.mp h).1 (List.mem_toFinset.mp hi)), ih (List.nodup_cons.mp h).2]
    rfl

/-- A set listed without repetition. -/
theorem bigSep_each {I : Type} [DecidableEq I] (Φ : I → sProp 𝕄) {s : Finset I} (l : List I) (h : l.Nodup) (hs : l.toFinset = s) :
    bigSep s Φ = each (F := F) l Φ := by subst hs; exact each_bigSep Φ l h

theorem each_sep {I : Type} (Φ Ψ : I → sProp 𝕄) (l : List I) :
    iprop(each (F := F) l Φ ∗ each (F := F) l Ψ) ⊢ each (F := F) l fun i => iprop(Φ i ∗ Ψ i) := by
  induction l with
  | nil => iintro -; iempintro
  | cons i l ih =>
    show iprop((Φ i ∗ each l Φ) ∗ Ψ i ∗ each l Ψ) ⊢ iprop((Φ i ∗ Ψ i) ∗ each l fun i => iprop(Φ i ∗ Ψ i))
    iintro ⟨⟨H1, H2⟩, H3, H4⟩
    isplitl [H1 H3]
    · isplitl [H1] <;> iassumption
    · iapply ih; isplitl [H2] <;> iassumption

theorem each_unsep {I : Type} (Φ Ψ : I → sProp 𝕄) (l : List I) :
    (each (F := F) l fun i => iprop(Φ i ∗ Ψ i)) ⊢ iprop(each (F := F) l Φ ∗ each (F := F) l Ψ) := by
  induction l with
  | nil => iintro -; isplitl <;> iempintro
  | cons i l ih =>
    show iprop((Φ i ∗ Ψ i) ∗ each l fun i => iprop(Φ i ∗ Ψ i)) ⊢ iprop((Φ i ∗ each l Φ) ∗ Ψ i ∗ each l Ψ)
    iintro ⟨⟨H1, H2⟩, H⟩
    ihave H' := ih $$ H
    icases H' with ⟨H3, H4⟩
    isplitl [H1 H3]
    · isplitl [H1] <;> iassumption
    · isplitl [H2] <;> iassumption

theorem each_mono {I : Type} {Φ Ψ : I → sProp 𝕄} (l : List I) (h : ∀ i ∈ l, Φ i ⊢ Ψ i) : each (F := F) l Φ ⊢ each (F := F) l Ψ := by
  induction l with
  | nil => exact .rfl
  | cons i l ih =>
    exact BIClass.sep_mono (h i List.mem_cons_self) (ih fun j hj => h j (List.mem_cons_of_mem _ hj))

theorem each_map {I J : Type} (g : I → J) (Φ : J → sProp 𝕄) (l : List I) : each (F := F) (l.map g) Φ = each (F := F) l fun i => Φ (g i) := by
  induction l with
  | nil => rfl
  | cons i l ih => show iprop(Φ (g i) ∗ each (l.map g) Φ) = iprop(Φ (g i) ∗ each l fun i => Φ (g i)); rw [ih]

/-- A run of steps over consecutive indices: what each step needs and leaves of its own, and a state `J` handed from
    one to the next, under a record `P` all of them read. -/
theorem steps_run (c : Dev nD) (P : sProp 𝕄) [BI.Persistent P] (J : ℕ → sProp 𝕄) {n : ℕ} (f : Fin n → KProg (F := F) PUnit) (pre post : Fin n → sProp 𝕄) :
    ∀ (l : List (Fin n)) (a : ℕ),
      (∀ i ∈ l, iprop(P ∗ J i.val ∗ pre i) ⊢ run c (f i) fun _ => iprop(J (i.val + 1) ∗ post i)) →
      l.map Fin.val = List.range' a l.length →
      iprop(P ∗ J a ∗ each (F := F) l pre) ⊢ run c (steps f l) fun _ => iprop(J (a + l.length) ∗ each (F := F) l post)
  | [], a, _, _ => by
    show _ ⊢ iprop(|={Set.univ}=> (J (a + 0) ∗ emp))
    iintro ⟨-, HJ, -⟩
    imodintro
    isplitl; · iexact HJ
    iempintro
  | i :: l, a, h, hl => by
    rw [List.length_cons, List.range'_succ, List.map_cons, List.cons.injEq] at hl
    obtain ⟨rfl, hl⟩ := hl
    have ih := steps_run c P J f pre post l (i.val + 1) (fun j hj => h j (List.mem_cons_of_mem _ hj)) hl
    show iprop(P ∗ J i.val ∗ pre i ∗ each l pre) ⊢ run c (f i >>= fun _ => steps f l) _
    rw [run_bind]
    iintro ⟨#HP, HJ, Hi, Hl⟩
    iapply (run_wand c (p := f i) ( fun _ => iprop(J (i.val + 1) ∗ post i)))
    isplitl [HJ Hi]
    · iapply (h i List.mem_cons_self)
      isplitr; · iexact HP
      isplitl [HJ] <;> iassumption
    iintro %_ ⟨HJ, Hi⟩
    iapply (run_wand c (p := steps f l) ( fun _ => iprop(J (i.val + 1 + l.length) ∗ each l post)))
    isplitl [HJ Hl]
    · iapply ih
      isplitr; · iexact HP
      isplitl [HJ] <;> iassumption
    iintro %_ ⟨HJ, Hl⟩
    isplitl [HJ]
    · rw [List.length_cons, show i.val + (l.length + 1) = i.val + 1 + l.length by omega]; iexact HJ
    · rw [each_cons]
      isplitl [Hi] <;> iassumption

/-! ## The blocks of the buffers -/

theorem inb_row : ∀ i : Fin 16, ∀ a, (![256 * i.val, 0] : Fin 2 → Nat) a + S256x512.size a ≤ S4096x512.size a := by decide
theorem inb_col : ∀ i : Fin 16, ∀ a, (![0, 512 * i.val] : Fin 2 → Nat) a + S4096x512.size a ≤ S4096x8192.size a := by decide

/-- The `i`-th block of 256 rows of the result (and of `comm_ref`), and the `i`-th block of 512 columns of `w_mat`. -/
abbrev rowR (i : Dev nD) : Rect S4096x512 := Rect.unit (s := S4096x512) ![256 * i.val, 0] S256x512.size (inb_row i)
abbrev blkR (i : Fin 16) : Rect S4096x8192 := Rect.unit (s := S4096x8192) ![0, 512 * i.val] S4096x512.size (inb_col i)

theorem row_disj (i j : Dev nD) (h : i ≠ j) : Disjoint (rowR i).set (rowR j).set :=
  Ring.lead_disjoint (s := S4096x512) (NB := 16) 0 256 (fun i => ![256 * i.val, 0]) S256x512.size inb_row (fun _ => rfl) rfl i j h
theorem row_cover : (Finset.univ : Finset (Dev nD)).biUnion (fun i => (rowR i).set) = Finset.univ :=
  Ring.lead_cover (s := S4096x512) (NB := 16) 0 256 (fun i => ![256 * i.val, 0]) S256x512.size inb_row (fun _ => rfl)
    (fun _ a ha => by fin_cases a; exacts [absurd rfl ha, rfl]) rfl (fun a ha => by fin_cases a; exacts [absurd rfl ha, rfl]) rfl
theorem blk_disj (i j : Fin 16) (h : i ≠ j) : Disjoint (blkR i).set (blkR j).set :=
  Ring.lead_disjoint (s := S4096x8192) (NB := 16) 1 512 (fun i => ![0, 512 * i.val]) S4096x512.size inb_col (fun _ => rfl) rfl i j h
theorem blk_cover : (Finset.univ : Finset (Fin 16)).biUnion (fun i => (blkR i).set) = Finset.univ :=
  Ring.lead_cover (s := S4096x8192) (NB := 16) 1 512 (fun i => ![0, 512 * i.val]) S4096x512.size inb_col (fun _ => rfl)
    (fun _ a ha => by fin_cases a; exacts [rfl, absurd rfl ha]) rfl (fun a ha => by fin_cases a; exacts [rfl, absurd rfl ha]) rfl
theorem wR_disj (i j : Fin 4) (h : i ≠ j) : Disjoint (wR i).set (wR j).set :=
  Ring.lead_disjoint (s := S4x4096x512) (NB := 4) 0 1 (fun i => ![i.val, 0, 0]) S1x4096x512.size inb_w (fun b => (Nat.one_mul b.val).symm) rfl i j h
theorem wR_cover : (Finset.univ : Finset (Fin 4)).biUnion (fun i => (wR i).set) = Finset.univ :=
  Ring.lead_cover (s := S4x4096x512) (NB := 4) 0 1 (fun i => ![i.val, 0, 0]) S1x4096x512.size inb_w (fun b => (Nat.one_mul b.val).symm)
    (fun _ a ha => by fin_cases a; exacts [absurd rfl ha, rfl, rfl]) rfl (fun a ha => by fin_cases a; exacts [absurd rfl ha, rfl, rfl]) rfl
theorem yR_disj (i j : Fin 16) (h : i ≠ j) : Disjoint (yR i).set (yR j).set :=
  Ring.lead_disjoint (s := S16x256x512) (NB := 16) 0 1 (fun i => ![i.val, 0, 0]) S1x256x512.size inb_y (fun b => (Nat.one_mul b.val).symm) rfl i j h
theorem yR_cover : (Finset.univ : Finset (Fin 16)).biUnion (fun i => (yR i).set) = Finset.univ :=
  Ring.lead_cover (s := S16x256x512) (NB := 16) 0 1 (fun i => ![i.val, 0, 0]) S1x256x512.size inb_y (fun b => (Nat.one_mul b.val).symm)
    (fun _ a ha => by fin_cases a; exacts [absurd rfl ha, rfl, rfl]) rfl (fun a ha => by fin_cases a; exacts [absurd rfl ha, rfl, rfl]) rfl

section Whole

variable (c : Dev nD)

/-- A whole buffer at any contents, as its points-to. -/
theorem any_whole (b : Ref sig .tc) :
    (iprop(∃ f : Buf (Elt F) (((c : Dev nD) : Thread nD τ).loc b), ((c : Thread nD τ).loc b) ↦{fullShare} f) : sProp 𝕄)
      = iprop(∃ X, owns (c : Thread nD τ) (Memref.whole b) fullShare X) := by
  have h₁ : (iprop(∃ f : Buf (Elt F) (((c : Dev nD) : Thread nD τ).loc b), ((c : Thread nD τ).loc b) ↦{fullShare} f) : sProp 𝕄)
      ⊢ iprop(∃ X, owns (c : Thread nD τ) (Memref.whole b) fullShare X) := by
    iintro ⟨%f, H⟩; iexists f; rw [owns_whole (c : Thread nD τ) b fullShare f]; iexact H
  have h₂ : (iprop(∃ X, owns (c : Thread nD τ) (Memref.whole b) fullShare X) : sProp 𝕄)
      ⊢ iprop(∃ f : Buf (Elt F) (((c : Dev nD) : Thread nD τ).loc b), ((c : Thread nD τ).loc b) ↦{fullShare} f) := by
    iintro ⟨%f, H⟩; iexists f; rw [← owns_whole (c : Thread nD τ) b fullShare f]; iexact H
  exact BI.equiv_iff.mp ⟨h₁, h₂⟩

/-- A memref at any contents is each of its parts at any contents, -/
theorem any_split {sp : Space} {sh : Shape} {e : EltTy} (m : Memref sig .tc sp sh e) {T : Type} [Fintype T] [DecidableEq T] (r : T → Rect sh)
    (hr : ∀ t a, (r t).stride a = 1) (hd : ∀ t t', t ≠ t' → Disjoint (r t).set (r t').set)
    (hcov : (Finset.univ : Finset T).biUnion (fun t => (r t).set) = Finset.univ) :
    (iprop(∃ X, owns (c : Thread nD τ) m fullShare X) : sProp 𝕄)
      ⊢ bigSep Finset.univ fun t => iprop(∃ X, owns (c : Thread nD τ) (m.slice (r t) (hr t)) fullShare X) := by
  iintro ⟨%X, H⟩
  iapply ((owns_rects (c : Thread nD τ) m fullShare r hr hd hcov X).trans (bigSep_mono (s := Finset.univ) fun t _ =>
    (show (owns (c : Thread nD τ) (m.slice (r t) (hr t)) fullShare (fun j => X ((r t).emb j)) : sProp 𝕄)
      ⊢ iprop(∃ X, owns (c : Thread nD τ) (m.slice (r t) (hr t)) fullShare X) from by iintro H; iexists _; iexact H)))
  iexact H

end Whole

end Cert.Exchange

end
-- ==== Proof.Protocol.lean ====
/-
The exchange's protocol: what each device holds and computes, the semaphore cells, and the schedule of their payments.

Every cell is run in rounds. A device's barrier cell has one round of fifteen duties, one from each other device; a peer's
payment hands over that peer's rows of `comm_ref` which this device's block is to land in. A cell of the ring of copies of
`w_mat` has four rounds of one duty, paid by the copy. A send cell and a receive cell have one round of one duty, paid by
the two ends of a remote copy.
-/
module

public import proofs.«01_k».proof.Proof.Parts
public import Mathlib.Data.Set.Function
public import Mathlib.Logic.Function.Basic
public import Mathlib.Algebra.Order.BigOperators.Group.LocallyFinite

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ring of devices -/

/-- The device `s` places after `c`. -/
def rot (c : Dev nD) (s : ℕ) : Dev nD := ⟨(c.val + s) % 16, Nat.mod_lt _ (by decide)⟩
/-- The `r`-th device that `c` takes a block in from. -/
def src (c : Dev nD) (r : Fin 15) : Dev nD := ⟨((c.val + 15) - r.val) % 16, Nat.mod_lt _ (by decide)⟩

theorem sigDev_eq : ∀ (c : Dev nD) (s : Fin 16), s ∈ peers → sigDev c s = rot c s.val := by decide +kernel
theorem sendDev_eq : ∀ (c : Dev nD) (s : Fin 16), s ∈ peers → sendDev c s = rot c s.val := by decide +kernel
theorem peers_mem : ∀ s : Fin 16, s ∈ peers ↔ s ≠ 0 := by decide
theorem rot_zero (c : Dev nD) : rot c 0 = c := by revert c; decide
theorem rot_ne (c : Dev nD) : ∀ s : Fin 16, s ≠ 0 → rot c s.val ≠ c := by revert c; decide
theorem src_ne (c : Dev nD) (r : Fin 15) : src c r ≠ c := by revert c r; decide
theorem rot_others (c : Dev nD) : (peers.map fun s => rot c s.val).Nodup ∧ (peers.map fun s => rot c s.val).toFinset = Finset.univ.erase c := by
  revert c; decide
theorem src_others (c : Dev nD) : (senders.map (src c)).Nodup ∧ (senders.map (src c)).toFinset = Finset.univ.erase c := by
  revert c; decide

/-- Something for every other device, listed in the order of the sends, -/
theorem others_rot (c : Dev nD) (Φ : Dev nD → sProp 𝕄) : bigSep (Finset.univ.erase c) Φ = each (F := F) peers fun s => Φ (rot c s.val) := by
  rw [bigSep_each Φ _ (rot_others c).1 (rot_others c).2, each_map]
/-- or in the order of the receives. -/
theorem others_src (c : Dev nD) (Φ : Dev nD → sProp 𝕄) : bigSep (Finset.univ.erase c) Φ = each (F := F) senders fun r => Φ (src c r) := by
  rw [bigSep_each Φ _ (src_others c).1 (src_others c).2, each_map]

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

def xstg (c : Dev nD) : (cc0_stg0_0 : Ref sig .tc).ty.Contents (Elt F) := (win0_0.blk (0 : Fin 1)).view.read (Elt F) (m ((c : Thread nD τ).loc main_arg0))
def astg (c : Dev nD) : (cc0_stg1_0 : Ref sig .tc).ty.Contents (Elt F) := (win0_1.blk (0 : Fin 1)).view.read (Elt F) (m ((c : Thread nD τ).loc main_arg2))
def bstg (c : Dev nD) : (cc0_stg2_0 : Ref sig .tc).ty.Contents (Elt F) := (win0_2.blk (0 : Fin 1)).view.read (Elt F) (m ((c : Thread nD τ).loc main_arg3))

abbrev r1 : Rect S1 := Rect.unit (s := S1) ![0] S1.size inb_S1_S1_0
/-- The product of the two scales. -/
def scale (c : Dev nD) : F .f32 :=
  k0_pay1 ((aM.access r1).read (Elt F) (astg m c) (Shape.Idx.first (numel1_S1.symm ▸ Nat.one_pos)))
    ((bM.access r1).read (Elt F) (bstg m c) (Shape.Idx.first (numel1_S1.symm ▸ Nat.one_pos)))
def xval (c : Dev nD) : IVec S256x4096 8 := k0_pay2 (F := F) (xstg m c)
/-- Block `t` of 512 columns of device `c`'s copy of `w_mat`. -/
def wcol (c : Dev nD) (t : Fin 16) : S4096x512.Idx → Elt F .i8 := (wA.slice (blkR t) (fun _ => rfl)).view.read (Elt F) (m ((c : Thread nD τ).loc main_arg1))
/-- The same under a leading axis of extent one, as the ring slot it lands in has it. -/
def wblk (c : Dev nD) (t : Fin 16) : S1x4096x512.Idx → Elt F .i8 :=
  fun i => wcol m c t ((Shape.reshapeEquiv squeezes_S1x4096x512_S4096x512.numel_eq).symm i)
/-- What device `c` stages for device `t`. -/
def ystaged (c t : Dev nD) : S1x256x512.Idx → Elt F .bf16 := k0_pay4 (scale m c) (xval m c) (wblk m c t)
/-- What arrives at device `t` from device `c`. -/
def tile (c t : Dev nD) : S256x512.Idx → Elt F .bf16 :=
  fun i => ystaged m c t (Shape.reshapeEquiv squeezes_S1x256x512_S256x512.numel_eq i)
/-- The `i`-th block of rows of device `c`'s result. -/
def orow (c i : Dev nD) : S256x512.Idx → Elt F .f32 :=
  if i = c then k0_pay3 (scale m c) (xval m c) (wblk m c c) else k0_pay23 (tile m i c)

/-- Device `c`'s result: the block of rows an index lies in, at its place in that block. -/
def outAt (c : Dev nD) : (cc0_stg3_0 : Ref sig .tc).ty.Contents (Elt F) := fun i =>
  orow m c ⟨(i 0).val / 256, Nat.div_lt_of_lt_mul (show (i 0).val < 256 * 16 from (i 0).isLt)⟩
    (fun a => match a with
      | ⟨0, _⟩ => ⟨(i 0).val % 256, Nat.mod_lt _ (by decide)⟩
      | ⟨1, _⟩ => i 1)

theorem outAt_rows (c i : Dev nD) (j : S256x512.Idx) : outAt m c ((rowR i).emb j) = orow m c i j := by
  have h0 : (((rowR i).emb j) 0).val = 256 * i.val + 1 * (j 0).val := rfl
  have h1 : (((rowR i).emb j) 1).val = 0 + 1 * (j 1).val := rfl
  have hj : (j 0).val < 256 := (j 0).isLt
  unfold outAt
  congr 1
  · exact Fin.ext (show (((rowR i).emb j) 0).val / 256 = i.val by omega)
  · funext a
    match a with
    | ⟨0, _⟩ => exact Fin.ext (show (((rowR i).emb j) 0).val % 256 = (j 0).val by omega)
    | ⟨1, _⟩ => exact Fin.ext (show (((rowR i).emb j) 1).val = (j 1).val by omega)

/-! ## Cells -/

/-- The kinds of cell: the barrier, the four of the ring of copies, the sixteen sends, the sixteen receives. -/
abbrev Own : Type := Fin 4 ⊕ (Fin 16 ⊕ Fin 16)
abbrev CK : Type := Unit ⊕ Own
abbrev kBar : CK := .inl ()
abbrev kW (r : Fin 4) : CK := .inr (.inl r)
abbrev kSend (s : Fin 16) : CK := .inr (.inr (.inl s))
abbrev kRecv (i : Fin 16) : CK := .inr (.inr (.inr i))

abbrev recvSem (i : Fin 16) : DmaSem sig := ((cc0_scratch5.slice (Rect.unit (s := S16) ![i.val] S1.size (inb_s16 i))).squeeze S_ squeezes_S1_S_).sem

theorem recvSem_of {i : Fin 16} {off : Fin 1 → ℕ} {inb : ∀ a, off a + S1.size a ≤ S16.size a} (h : off = ![i.val]) :
    ((cc0_scratch5.slice (Rect.unit (s := S16) off S1.size inb)).squeeze S_ squeezes_S1_S_).sem = recvSem i := by subst h; rfl

/-- The kernel's own semaphores, and with them the runtime's barrier semaphore. -/
def osem : Own → SemLoc sig
  | .inl r => .dma (wSem r)
  | .inr (.inl s) => .dma (sendSem s)
  | .inr (.inr i) => .dma (recvSem i)
def csem : CK → SemLoc sig
  | .inl _ => .reg barS
  | .inr k => osem k

theorem ownSemFacts : Pipeline.OwnSemFacts cfg0.spec osem := by decide +kernel

theorem csem_injective : Function.Injective csem := by
  intro a b h
  match a, b, h with
  | .inl _, .inl _, _ => rfl
  | .inr k, .inr k', h => exact congrArg _ (ownSemFacts.inj h)
  | .inl _, .inr (.inl _), h => exact nomatch h
  | .inl _, .inr (.inr (.inl _)), h => exact nomatch h
  | .inl _, .inr (.inr (.inr _)), h => exact nomatch h
  | .inr (.inl _), .inl _, h => exact nomatch h
  | .inr (.inr (.inl _)), .inl _, h => exact nomatch h
  | .inr (.inr (.inr _)), .inl _, h => exact nomatch h

/-- Which kind of cell a semaphore is, if it is one of the exchange's. -/
def kind (s : SemLoc sig) : Option CK := by classical exact Function.partialInv csem s
theorem kind_csem (k : CK) : kind (csem k) = some k := by
  classical
  unfold kind
  convert Function.partialInv_left csem_injective k
theorem csem_of_kind {s : SemLoc sig} {k : CK} (h : kind s = some k) : csem k = s := by
  classical
  unfold kind at h
  exact (Function.partialInv_of_injective csem_injective k s).mp (by convert h)

abbrev cell (c : Dev nD) (k : CK) : GSem nD τ sig := ((c : Thread nD τ), csem k)
theorem cell_inj {c c' : Dev nD} {k k' : CK} (h : cell c k = cell c' k') : c = c' ∧ k = k' :=
  ⟨congrArg (fun g : GSem nD τ sig => g.1.1) h, csem_injective (congrArg (fun g : GSem nD τ sig => g.2) h)⟩

/-- What a copy of a block of `w_mat` counts, and what a block sent counts. -/
abbrev NW : ℕ := (wSlot 0).view.dmaCredit
abbrev NX : ℕ := (ySlot 0).view.dmaCredit
theorem NW_pos : 0 < NW := View.dmaCredit_pos _ (by decide)
theorem NX_pos : 0 < NX := View.dmaCredit_pos _ (by decide)

/-! ## The schedule -/

/-- Device `d`'s rows of `comm_ref` for the block of device `c`, at any contents. -/
def roomAt (d c : Dev nD) : sProp 𝕄 := iprop(∃ X, owns (d : Thread nD τ) (cM.slice (rowR c) (fun _ => rfl)) fullShare X)
/-- A slot of the ring holding block `t`, and that block of `w_mat` back. -/
def wSlotAt (c : Dev nD) (r : Fin 4) (X : S1x4096x512.Idx → Elt F .i8) : sProp 𝕄 := owns (c : Thread nD τ) (wM.slice (wR r) (fun _ => rfl)) fullShare X
def wColAt (c : Dev nD) (t : Fin 16) : sProp 𝕄 := owns (c : Thread nD τ) (wA.slice (blkR t) (fun _ => rfl)) fullShare (wcol m c t)
def ySlotAny (c : Dev nD) (s : Fin 16) : sProp 𝕄 := iprop(∃ X, owns (c : Thread nD τ) (yM.slice (yR s) (fun _ => rfl)) fullShare X)
def arrived (c i : Dev nD) : sProp 𝕄 := owns (c : Thread nD τ) (cM.slice (rowR i) (fun _ => rfl)) fullShare (tile m i c)

/-- The block of columns that the copy of round `n` on ring cell `r` brings. -/
def ringBlk (c : Dev nD) (r : Fin 4) (n : ℕ) : Fin 16 := rot c (4 * n + r.val)

def dutiesAt (c : Dev nD) (n : ℕ) : CK → Finset Duty
  | .inl _ => if n = 0 then Finset.univ.erase c else ∅
  | .inr (.inl _) => if n < 4 then {0} else ∅
  | .inr (.inr (.inl s)) => if n = 0 ∧ s ≠ 0 then {0} else ∅
  | .inr (.inr (.inr i)) => if n = 0 ∧ i ≠ c then {0} else ∅

def amountAt : CK → ℕ
  | .inl _ => 1
  | .inr (.inl _) => NW
  | .inr (.inr _) => NX

def payAt (c : Dev nD) (n : ℕ) (d : Duty) : CK → sProp 𝕄
  | .inl _ => roomAt d c
  | .inr (.inl r) => iprop(wSlotAt c r (wblk m c (ringBlk c r n)) ∗ wColAt m c (ringBlk c r n))
  | .inr (.inr (.inl s)) => ySlotAny c s
  | .inr (.inr (.inr i)) => arrived m c i

theorem amountAt_pos (k : CK) : 0 < amountAt k :=
  match k with
  | .inl _ => Nat.one_pos
  | .inr (.inl _) => NW_pos
  | .inr (.inr _) => NX_pos

instance payAt_storable (c : Dev nD) (n : ℕ) (d : Duty) (k : CK) : BI.Storable (upEmb : UEmb _ 𝕄) (payAt m c n d k) := by
  match k with
  | .inl _ => show BI.Storable upEmb (roomAt d c); unfold roomAt; infer_instance
  | .inr (.inl r) => show BI.Storable upEmb (iprop(wSlotAt c r (wblk m c (ringBlk c r n)) ∗ wColAt m c (ringBlk c r n))); unfold wSlotAt wColAt; infer_instance
  | .inr (.inr (.inl s)) => show BI.Storable upEmb (ySlotAny c s); unfold ySlotAny; infer_instance
  | .inr (.inr (.inr i)) => show BI.Storable upEmb (arrived m c i); unfold arrived; infer_instance

/-- The schedule of the exchange's cells. -/
def sched : Rounds.Schedule (GSem nD τ sig) Duty 𝕄 where
  duties g n := match kind g.2 with
    | some k => if g.1.2 = .tc then dutiesAt g.1.1 n k else ∅
    | none => ∅
  unitless _ := False
  amount g _ _ := match kind g.2 with
    | some k => amountAt k
    | none => 1
  payload g n d := match kind g.2 with
    | some k => payAt m g.1.1 n d k
    | none => iprop(emp)
  amount_pos g _ _ _ := by
    split
    · exact amountAt_pos _
    · exact Nat.one_pos

instance sched_storable (g : GSem nD τ sig) (n : ℕ) (d : Duty) : BI.Storable (upEmb : UEmb _ 𝕄) ((sched (F := F) m).payload g n d) := by
  show BI.Storable upEmb (match kind g.2 with
    | some k => payAt m g.1.1 n d k
    | none => iprop(emp))
  split <;> infer_instance

section Sched
variable (c : Dev nD) (k : CK)

theorem duties_cell (n : ℕ) : (sched (F := F) m).duties (cell c k) n = dutiesAt c n k := by
  show (match kind (csem k) with
    | some k => if (cell c k).1.2 = Proc.tc then dutiesAt c n k else ∅
    | none => ∅) = _
  rw [kind_csem]; exact if_pos rfl
theorem amount_cell (n : ℕ) (d : Duty) : (sched (F := F) m).amount (cell c k) n d = amountAt k := by
  show (match kind (csem k) with
    | some k => amountAt k
    | none => 1) = _
  rw [kind_csem]
theorem payload_cell (n : ℕ) (d : Duty) : (sched (F := F) m).payload (cell c k) n d = payAt m c n d k := by
  show (match kind (csem k) with
    | some k => payAt m c n d k
    | none => iprop(emp)) = _
  rw [kind_csem]
theorem expect_cell (n : ℕ) : (sched (F := F) m).expect (cell c k) n = (dutiesAt c n k).card * amountAt k := by
  unfold Schedule.expect Schedule.amountOf
  rw [duties_cell, Finset.sum_congr rfl fun d _ => amount_cell m c k n d, Finset.sum_const, smul_eq_mul]
/-- What the rest of a round brings when nothing of it has been taken. -/
theorem rest_cell (n : ℕ) : bigSep ((sched (F := F) m).duties (cell c k) n \ ∅) (fun d => (sched (F := F) m).payload (cell c k) n d)
    = bigSep (dutiesAt c n k) fun d => payAt m c n d k := by
  rw [Finset.sdiff_empty, duties_cell]
  exact bigSep_congr fun d _ => payload_cell m c k n d

/-- The round after which a cell has no more duties. -/
def lastRound : CK → ℕ
  | .inr (.inl _) => 4
  | _ => 1

end Sched

theorem duties_none (c : Dev nD) (k : CK) (R : ℕ) (h : ∀ n, R ≤ n → dutiesAt c n k = ∅) : ∀ n, R ≤ n → (sched (F := F) m).duties (cell c k) n = ∅ :=
  fun n hn => (duties_cell m c k n).trans (h n hn)

/-! ## What each core owes at launch; the levels -/

/-- The blocks still to be sent from phase `n` on, and the signals still to be given from the `n`-th on. -/
def owedSends (c : Dev nD) (n : ℕ) : CellTallies nD τ sig Unit := ∑ s ∈ Finset.Ico n 16, tallyAt (cell (rot c s) (kRecv c)) () NX
def owedSignals (c : Dev nD) (n : ℕ) : CellTallies nD τ sig Unit := ∑ s ∈ Finset.Ico n 16, tallyAt (cell (rot c s) kBar) () 1

theorem owedSends_step (c : Dev nD) (n : ℕ) (h : n < 16) : owedSends c n = owedSends c (n + 1) + tallyAt (cell (rot c n) (kRecv c)) () NX := by
  unfold owedSends; rw [Finset.sum_eq_sum_Ico_succ_bot h, add_comm]
theorem owedSignals_step (c : Dev nD) (n : ℕ) (h : n < 16) : owedSignals c n = owedSignals c (n + 1) + tallyAt (cell (rot c n) kBar) () 1 := by
  unfold owedSignals; rw [Finset.sum_eq_sum_Ico_succ_bot h, add_comm]
theorem owedSends_done (c : Dev nD) : owedSends c 16 = 0 := by unfold owedSends; rw [Finset.Ico_self, Finset.sum_empty]
theorem owedSignals_done (c : Dev nD) : owedSignals c 16 = 0 := by unfold owedSignals; rw [Finset.Ico_self, Finset.sum_empty]

/-- A device owes every other device's receive cell its block, and every other device's barrier cell a unit. -/
def O₀ (c : Dev nD) : CellTallies nD τ sig Unit := owedSends c 1 + owedSignals c 1

def L (g : GSem nD τ sig) : Finset Unit := if g.1.2 = .tc then {()} else ∅
/-- Barrier cells at 1, receive cells at 2, everything else at 0. -/
def lv (g : GSem nD τ sig) (_ : Unit) : ℕ := match kind g.2 with
  | some (.inl _) => 1
  | some (.inr (.inr (.inr _))) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (cell c kBar) () = 1 := by unfold lv; rw [show kind (cell c kBar).2 = some kBar from kind_csem kBar]
theorem lv_recv (c i : Dev nD) : lv (cell c (kRecv i)) () = 2 := by unfold lv; rw [show kind (cell c (kRecv i)).2 = some (kRecv i) from kind_csem (kRecv i)]
theorem lv_w (c : Dev nD) (r : Fin 4) : lv (cell c (kW r)) () = 0 := by unfold lv; rw [show kind (cell c (kW r)).2 = some (kW r) from kind_csem (kW r)]

theorem sum_pos_exists {I : Type} {s : Finset I} {f : I → CellTallies nD τ sig Unit} {g : GSem nD τ sig} {u : Unit}
    (h : 0 < (∑ i ∈ s, f i) g u) : ∃ i ∈ s, 0 < f i g u := by
  by_contra hn
  push Not at hn
  rw [Finset.sum_apply, Finsupp.finset_sum_apply, Finset.sum_eq_zero fun i hi => Nat.le_zero.mp (hn i hi)] at h
  exact Nat.lt_irrefl 0 h

theorem tally_pos {a g : GSem nD τ sig} {n : ℕ} {u : Unit} (h : 0 < (tallyAt a () n : CellTallies nD τ sig Unit) g u) : g = a := by
  rw [tallyAt_apply] at h
  by_contra hn
  rw [if_neg fun h' => hn h'.1] at h
  exact Nat.lt_irrefl 0 h

theorem owedSends_pos {c : Dev nD} {n : ℕ} {g : GSem nD τ sig} {u : Unit} (h : 0 < owedSends c n g u) : ∃ d : Dev nD, g = cell d (kRecv c) := by
  obtain ⟨i, -, hi⟩ := sum_pos_exists h
  exact ⟨_, tally_pos hi⟩
theorem owedSignals_pos {c : Dev nD} {n : ℕ} {g : GSem nD τ sig} {u : Unit} (h : 0 < owedSignals c n g u) : ∃ d : Dev nD, g = cell d kBar := by
  obtain ⟨i, -, hi⟩ := sum_pos_exists h
  exact ⟨_, tally_pos hi⟩

theorem O₀_pos {c : Dev nD} {g : GSem nD τ sig} {u : Unit} (h : 0 < O₀ c g u) : ∃ d : Dev nD, g = cell d (kRecv c) ∨ g = cell d kBar := by
  unfold O₀ at h
  rw [Pi.add_apply, Finsupp.add_apply] at h
  rcases Nat.eq_zero_or_pos (owedSends c 1 g u) with h0 | h0
  · rw [h0, Nat.zero_add] at h
    obtain ⟨d, hd⟩ := owedSignals_pos h; exact ⟨d, .inr hd⟩
  · obtain ⟨d, hd⟩ := owedSends_pos h0; exact ⟨d, .inl hd⟩

/-- The levels, as the waits read them. -/
def levels : sProp 𝕄 := levAts L lv
instance levels_persistent : BI.Persistent (levels (F := F)) := by unfold levels; infer_instance

/-- Waiting on a cell strictly below everything owed. -/
theorem mayWait_below (c : Dev nD) (sm : SemLoc sig) (n : ℕ) (hn : lv ((c : Thread nD τ), sm) () ≤ n) (O : CellTallies nD τ sig Unit)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- A staging semaphore's wait, owing what is owed at launch or nothing. -/
theorem mayWait_stage (c : Dev nD) (q : DmaSem sig) (hq : ∀ k, SemLoc.dma q ≠ csem k) (O : CellTallies nD τ sig Unit) (hO : O = O₀ c ∨ O = 0) :
    (levAts L lv : sProp 𝕄) ⊢ MayWait (c : Thread nD τ) (.dma q) () O := by
  rcases hO with rfl | rfl
  · refine mayWait_below c (.dma q) 0 ?_ _ fun g u hg => ?_
    · have h : kind (SemLoc.dma q : SemLoc sig) = none := by
        rcases hk : kind (SemLoc.dma q : SemLoc sig) with _ | k
        · rfl
        · exact absurd (csem_of_kind hk).symm (hq k)
      show lv _ _ ≤ 0
      unfold lv; rw [show kind ((c : Thread nD τ), SemLoc.dma q).2 = none from h]
    · obtain ⟨d, rfl | rfl⟩ := O₀_pos hg
      · exact ⟨rfl, by rw [show u = () from rfl, lv_recv]; decide⟩
      · exact ⟨rfl, by rw [show u = () from rfl, lv_bar]; decide⟩
  · rw [MayWait_zero]; iintro -; iempintro

/-- Waiting on the barrier or on the ring of copies, owing sends only. -/
theorem mayWait_bar (c : Dev nD) (n : ℕ) : (levels : sProp 𝕄) ⊢ MayWait (c : Thread nD τ) (csem kBar) () (owedSends c n) :=
  mayWait_below c _ 1 (le_of_eq (lv_bar c)) _ fun g u hg => by
    obtain ⟨d, rfl⟩ := owedSends_pos hg; exact ⟨rfl, by rw [show u = () from rfl, lv_recv]; decide⟩
theorem mayWait_w (c : Dev nD) (r : Fin 4) (n : ℕ) : (levels : sProp 𝕄) ⊢ MayWait (c : Thread nD τ) (csem (kW r)) () (owedSends c n) :=
  mayWait_below c _ 1 (by rw [show lv ((c : Thread nD τ), csem (kW r)) () = 0 from lv_w c r]; decide) _ fun g u hg => by
    obtain ⟨d, rfl⟩ := owedSends_pos hg; exact ⟨rfl, by rw [show u = () from rfl, lv_recv]; decide⟩

end Cert.Exchange

end
-- ==== Proof.Steps.lean ====
/-
The steps of the exchange, one by one: what each needs, what it leaves.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Ownership of a memref and of its squeezed form -/

section Squeeze

variable (t : Thread nD τ) {sp : Space} {s s' : Shape} {e : EltTy} (m : Memref sig t.2.kind sp s e) (h : s.Squeezes s') (q : PosShare TreeShare)

theorem owns_squeeze (X : s.Idx → Elt F e) :
    (owns t m q X : sProp 𝕄) ⊢ owns t (m.squeeze s' h) q (fun i => X (Shape.reshapeEquiv h.numel_eq i)) := by
  unfold owns
  iintro ⟨%f, %hf, H⟩
  subst hf
  iexists f
  isplitr; · ipureintro; rfl
  iapply (Entails.of_eq (by rw [show (m.squeeze s' h).view.set = m.view.set from View.set_reshape _ _])) $$ H

theorem owns_unsqueeze (X : s'.Idx → Elt F e) :
    (owns t (m.squeeze s' h) q X : sProp 𝕄) ⊢ owns t m q (fun i => X ((Shape.reshapeEquiv h.numel_eq).symm i)) := by
  unfold owns
  iintro ⟨%f, %hf, H⟩
  subst hf
  iexists f
  isplitr
  · ipureintro
    funext i
    have : ∀ j, (m.squeeze s' h).view.read (Elt F) f j = m.view.read (Elt F) f (Shape.reshapeEquiv h.numel_eq j) := fun _ => rfl
    rw [this, Equiv.apply_symm_apply]
  iapply (Entails.of_eq (by rw [show (m.squeeze s' h).view.set = m.view.set from View.set_reshape _ _])) $$ H

end Squeeze

/-! ## The rules over the protocol's cells -/

variable (m : (ℓ : Loc nD τ sig) → Buf (Elt F) ℓ) (K : Dev nD × CK → ℕ)

/-- What every core knows of every cell, and the levels. -/
def known : sProp 𝕄 :=
  iprop((bigSep Finset.univ fun g : Dev nD × CK => iprop(cellInv ER (sched m) (K g) (cell g.1 g.2) ∗ reached ER (cell g.1 g.2) 0)) ∗ levels)

instance known_persistent : BI.Persistent (known m K) := by unfold known; infer_instance

theorem known_cell (c : Dev nD) (k : CK) : known m K ⊢ iprop(cellInv ER (sched m) (K (c, k)) (cell c k) ∗ reached ER (cell c k) 0) := by
  have h : (bigSep Finset.univ fun g : Dev nD × CK => iprop(cellInv ER (sched m) (K g) (cell g.1 g.2) ∗ reached ER (cell g.1 g.2) 0))
      ⊢ iprop(cellInv ER (sched m) (K (c, k)) (cell c k) ∗ reached ER (cell c k) 0) := bigSep_elim (Finset.mem_univ (c, k))
  unfold known
  iintro ⟨H, -⟩
  iapply h; iexact H
theorem known_inv (c : Dev nD) (k : CK) : known m K ⊢ cellInv ER (sched m) (K (c, k)) (cell c k) :=
  (known_cell m K c k).trans (by iintro ⟨H, -⟩; iexact H)
theorem known_reached (c : Dev nD) (k : CK) : known m K ⊢ reached ER (cell c k) 0 :=
  (known_cell m K c k).trans (by iintro ⟨-, H⟩; iexact H)
theorem known_levels : known m K ⊢ levels := by
  unfold known; iintro ⟨-, H⟩; iexact H

theorem known_wait (c : Dev nD) (k : CK) {O : CellTallies nD τ sig Unit} (h : levels ⊢ (MayWait (c : Thread nD τ) (csem k) () O : sProp 𝕄)) :
    known m K ⊢ MayWait (c : Thread nD τ) (csem k) () O := (@known_levels F _ m K).trans h
theorem known_wait_free (c : Dev nD) (k : CK) : known m K ⊢ MayWait (c : Thread nD τ) (csem k) () 0 := by
  rw [MayWait_zero]; iintro -; iempintro

/-- What core `c` owes, whatever it has waited for. -/
def owing (c : Dev nD) (O : CellTallies nD τ sig Unit) : sProp 𝕄 := iprop(∃ W, owes (c : Thread nD τ) O W)

section Rules

variable (c : Dev nD) {α : Type} {k : PUnit → KProg (F := F) α}

/-- Signalling the barrier cell of `d`. -/
theorem own_signal (d d' : Dev nD) (he : d' = d) (hd : d ≠ c) {n : ℕ} (hn : n = 1) {O : CellTallies nD τ sig Unit} {Q : α → sProp 𝕄} :
    iprop(known m K ∗ owing c (O + tallyAt (cell d kBar) () 1) ∗ dutyTok ER (cell d kBar) 0 (c : Duty) ∗ roomAt c d)
      ⊢ iprop((owing c O -∗ run c (k ⟨⟩) Q) -∗ run c (.op (.semSignal (d' : Thread nD τ) barS n) k) Q) := by
  subst he
  subst hn
  unfold owing
  iintro ⟨#HP, ⟨%W, HO⟩, Ht, Hroom⟩ Hk
  iapply (Rounds.wp_signal 𝒱₀ ER (sched m) (c : Thread nD τ) none (dst := (d' : Thread nD τ)) (κ := K (d', kBar)) (r := 0)
    (d := (c : Duty)) (by
      show c ∈ (sched m).duties (cell d' kBar) 0
      rw [duties_cell]; exact Finset.mem_erase.mpr ⟨fun h => hd h.symm, Finset.mem_univ _⟩) (amount_cell m d' kBar 0 c) () O rfl) $$ [HO Ht Hroom]
  · isplitr; · iapply (known_inv m K d' kBar); iexact HP
    isplitl [HO]; · iexact HO
    isplitl [Ht]; · iexact Ht
    isplitl [Hroom]; · iapply (show roomAt c d' ⊢ (sched m).payload ((d' : Thread nD τ), .reg barS) 0 c from Entails.of_eq (payload_cell m d' kBar 0 c).symm); iexact Hroom
    iapply (known_reached m K d' kBar); iexact HP
  iintro HO
  iapply Hk
  iexists W; iexact HO

/-- Waiting for the rest of a round of one of its own cells. -/
theorem own_wait (ck : CK) (n : ℕ) {w : TpuEff nD τ sig (Elt F) Λ₀ .tc PUnit} {k' : ℕ} (N : ℕ) (hN : k' = N) {O : CellTallies nD τ sig Unit}
    (hw : ∀ Kt : PUnit → sProp 𝕄, wpE (defs₀ (F := F)) 𝒱₀ (c : Thread nD τ) none Set.univ w Kt = waitSpec (c : Thread nD τ) Set.univ (csem ck) k' Kt)
    (hk : N = (dutiesAt c n ck).card * amountAt ck)
    (hmay : known m K ⊢ MayWait (c : Thread nD τ) (csem ck) () O) {Q : α → sProp 𝕄} :
    iprop(known m K ∗ owing c O ∗ cred (tallyAt (cell c ck) () N) ∗ atPos ER (cell c ck) n ∅ 0)
      ⊢ iprop((iprop(owing c O ∗ atPos ER (cell c ck) (n + 1) ∅ 0 ∗ reached ER (cell c ck) (n + 1) ∗ bigSep (dutiesAt c n ck) fun d => payAt m c n d ck) -∗ run c (k ⟨⟩) Q)
          -∗ run c (.op w k) Q) := by
  subst hN
  unfold owing
  iintro ⟨#HP, ⟨%W, HO⟩, Hc, Hat⟩ Hk
  iapply (Rounds.wp_wait_rest_token 𝒱₀ ER (sched m) (c : Thread nD τ) none (κ := K (c, ck)) hw (Set.mem_univ _) () (O := O) (W := W) (R := n) (m := 0) (T := ∅)
    (by rw [Nat.zero_add, hk]; exact (expect_cell m c ck n).symm)) $$ [HO Hc Hat]
  · isplitr; · iapply (known_inv m K c ck); iexact HP
    isplitl [Hc]; · iexact Hc
    isplitl [HO]; · iexact HO
    isplitr; · iapply hmay; iexact HP
    iexact Hat
  iintro ⟨HO, Hat, Hr, Hpay⟩
  ihave Hpay := (Entails.of_eq (rest_cell m c ck n)) $$ Hpay
  iapply Hk
  isplitl [HO]; · iexists _; iexact HO
  isplitl [Hat]; · iexact Hat
  isplitl [Hr]; · iexact Hr
  iexact Hpay

/-- The same when the round has one duty. -/
theorem own_wait_one (ck : CK) (n : ℕ) (hd : dutiesAt c n ck = {0}) {w : TpuEff nD τ sig (Elt F) Λ₀ .tc PUnit} {k' : ℕ} (N : ℕ) (hN : k' = N) (hA : amountAt ck = N)
    (O : CellTallies nD τ sig Unit)
    (hw : ∀ Kt : PUnit → sProp 𝕄, wpE (defs₀ (F := F)) 𝒱₀ (c : Thread nD τ) none Set.univ w Kt = waitSpec (c : Thread nD τ) Set.univ (csem ck) k' Kt)
    (hmay : known m K ⊢ MayWait (c : Thread nD τ) (csem ck) () O) {Q : α → sProp 𝕄} :
    iprop(known m K ∗ owing c O ∗ cred (tallyAt (cell c ck) () N) ∗ atPos ER (cell c ck) n ∅ 0)
      ⊢ iprop((iprop(owing c O ∗ atPos ER (cell c ck) (n + 1) ∅ 0 ∗ reached ER (cell c ck) (n + 1) ∗ payAt m c n 0 ck) -∗ run c (k ⟨⟩) Q)
          -∗ run c (.op w k) Q) := by
  have h := own_wait m K c (k := k) ck n N hN hw (by rw [hd, Finset.card_singleton, Nat.one_mul]; exact hA.symm) hmay (Q := Q)
  rw [hd, bigSep_singleton] at h
  exact h

/-- A cell with no more duties gives its semaphore's counter back, at zero. -/
theorem own_close (ck : CK) (n : ℕ) (h : ∀ i, n ≤ i → dutiesAt c i ck = ∅) :
    iprop(known m K ∗ atPos ER (cell c ck) n ∅ 0) ⊢ iprop(|={Set.univ}=> semVal (cell c ck) 0) := by
  iintro ⟨#HP, Hat⟩
  iapply (Rounds.cell_close ER (sched m) (Set.mem_univ (K (c, ck))) (fun h => h) (R := n) (duties_none m c ck n h))
  isplitr; · iapply (known_inv m K c ck); iexact HP
  iexact Hat

end Rules

section Transfers

variable (c : Dev nD) {α : Type} {k : PUnit → KProg (F := F) α}
  {sp sp' : Space} {s : Shape} {e : EltTy} {a : Memref sig .tc sp s e}

/-- A copy within the core, paying duty 0 of round `n` of one of its own cells. -/
theorem own_copy (ck : CK) (n : ℕ) {b : Memref sig .tc sp' s e} {sem : DmaSem sig} (hsem : csem ck = .dma sem)
    {ha : a.view.WordExact} {hb : b.view.WordExact} {ht : DmaTarget.Typed (nD := nD) (τ := τ) (p := .tc) sp (.dma sem) (.here b)}
    (X Y : s.Idx → Elt F e) (hd : (0 : Duty) ∈ dutiesAt c n ck) (N : ℕ) (hN : b.view.dmaCredit = N) (hA : amountAt ck = N)
    (hpay : iprop(owns (c : Thread nD τ) b fullShare X ∗ owns (c : Thread nD τ) a fullShare X) ⊢ payAt m c n 0 ck) {Q : α → sProp 𝕄} :
    iprop(known m K ∗ owns (c : Thread nD τ) a fullShare X ∗ owns (c : Thread nD τ) b fullShare Y ∗ dutyTok ER (cell c ck) n (0 : Duty) ∗ reached ER (cell c ck) n)
      ⊢ iprop((cred (tallyAt (cell c ck) () N) -∗ run c (k ⟨⟩) Q)
          -∗ run c (.op (.enqueueDma a (.here b) (.dma sem) ha hb ht) k) Q) := by
  rw [show cell c ck = ((c : Thread nD τ), SemLoc.dma sem) from congrArg (Prod.mk _) hsem]
  unfold owns
  iintro ⟨#HP, ⟨%fs, %hfs, Ha⟩, ⟨%fd, %hfd, Hb⟩, Ht, Hr⟩ Hk
  iapply (Rounds.wp_copy_pointsTo 𝒱₀ ER (sched m) (c : Thread nD τ) none (κ := K (c, ck)) (sem := .dma sem) (r := n) (d := (0 : Duty)) (src := a) (dst := b) (fs := fs) (fd := fd) (q := fullShare)
    (by rw [← hsem]; exact (duties_cell m c ck n).symm ▸ hd) () N hN (by rw [← hsem]; exact (amount_cell m c ck n 0).trans hA)
    (by
      rw [← hsem]
      refine BIBase.Entails.trans ?_ (hpay.trans (Entails.of_eq (payload_cell m c ck n 0).symm))
      refine BIClass.sep_mono ?_ ?_
      · unfold owns
        iintro H; iexists _; isplitr
        swap
        · iexact H
        · ipureintro; rw [← hfs]; exact View.read_write_univ _ _
      · unfold owns
        iintro H; iexists fs; isplitr; · ipureintro; exact hfs
        iexact H)) $$ [Ha Hb Ht Hr]
  · isplitr
    · rw [← hsem]; iapply (known_inv m K c ck); iexact HP
    isplitl [Ha]; · iexact Ha
    isplitl [Hb]; · iexact Hb
    isplitl [Ht] <;> iassumption
  iexact Hk

/-- A copy to another core, paying duty 0 of round 0 of a cell of its own and of a cell of the target's. -/
theorem own_send (d d' : Dev nD) (he : d' = d) (ck ck' : CK) {b : Memref sig .tc sp' s e} {sem sem' : DmaSem sig} (hsem : csem ck = .dma sem) (hsem' : csem ck' = .dma sem')
    {ha : a.view.WordExact} {hb : b.view.WordExact} {hsc} {ht : DmaTarget.Typed (p := .tc) sp (.dma sem') (.remote (d' : Thread nD τ) b (.dma sem) hsc)}
    (X Y : s.Idx → Elt F e) (hd : (0 : Duty) ∈ dutiesAt c 0 ck) (hd' : (0 : Duty) ∈ dutiesAt d 0 ck')
    (N : ℕ) (hN : b.view.dmaCredit = N) (hA : amountAt ck = N) (hA' : amountAt ck' = N) {O : CellTallies nD τ sig Unit}
    (hpay : owns (c : Thread nD τ) a fullShare X ⊢ payAt m c 0 0 ck) (hpay' : owns (d : Thread nD τ) b fullShare X ⊢ payAt m d 0 0 ck') {Q : α → sProp 𝕄} :
    iprop(known m K ∗ owing c (O + tallyAt (cell d ck') () N) ∗ owns (c : Thread nD τ) a fullShare X ∗ owns (d : Thread nD τ) b fullShare Y
        ∗ dutyTok ER (cell c ck) 0 (0 : Duty) ∗ dutyTok ER (cell d ck') 0 (0 : Duty))
      ⊢ iprop((iprop(cred (tallyAt (cell c ck) () N) ∗ owing c O) -∗ run c (k ⟨⟩) Q)
          -∗ run c (.op (.enqueueDma a (.remote (d' : Thread nD τ) b (.dma sem) hsc) (.dma sem') ha hb ht) k) Q) := by
  subst he
  rw [show cell c ck = ((c : Thread nD τ), SemLoc.dma sem) from congrArg (Prod.mk _) hsem,
    show cell d' ck' = ((d' : Thread nD τ), SemLoc.dma sem') from congrArg (Prod.mk _) hsem']
  unfold owns owing
  iintro ⟨#HP, ⟨%W, HO⟩, ⟨%fs, %hfs, Ha⟩, ⟨%fd, %hfd, Hb⟩, Ht, Ht'⟩ Hk
  iapply (Rounds.wp_send_pointsTo 𝒱₀ ER (sched m) (c : Thread nD τ) none (κ₁ := K (c, ck)) (κ₂ := K (d', ck')) (sS := .dma sem) (sem := .dma sem') (r₁ := 0) (r₂ := 0) (d₁ := (0 : Duty)) (d₂ := (0 : Duty))
    (c' := (d' : Thread nD τ)) (src := a) (dst := b) (fs := fs) (fd := fd) (q := fullShare)
    (by rw [← hsem]; exact (duties_cell m c ck 0).symm ▸ hd) (by rw [← hsem']; exact (duties_cell m d' ck' 0).symm ▸ hd') () () N hN
    (by rw [← hsem]; exact (amount_cell m c ck 0 0).trans hA) (by rw [← hsem']; exact (amount_cell m d' ck' 0 0).trans hA') O rfl
    (by
      rw [← hsem]
      refine BIBase.Entails.trans ?_ (hpay.trans (Entails.of_eq (payload_cell m c ck 0 0).symm))
      unfold owns
      iintro H; iexists fs; isplitr; · ipureintro; exact hfs
      iexact H)
    (by
      rw [← hsem']
      refine BIBase.Entails.trans ?_ (hpay'.trans (Entails.of_eq (payload_cell m d' ck' 0 0).symm))
      unfold owns
      iintro H; iexists _; isplitr
      swap
      · iexact H
      · ipureintro; rw [← hfs]; exact View.read_write_univ _ _)) $$ [HO Ha Hb Ht Ht']
  · isplitr
    · rw [← hsem]; iapply (known_inv m K c ck); iexact HP
    isplitr
    · rw [← hsem']; iapply (known_inv m K d' ck'); iexact HP
    isplitl [Ha]; · iexact Ha
    isplitl [Hb]; · iexact Hb
    isplitl [HO]; · iexact HO
    isplitl [Ht]; · iexact Ht
    isplitr
    · rw [← hsem]; iapply (known_reached m K c ck); iexact HP
    isplitl [Ht']; · iexact Ht'
    rw [← hsem']; iapply (known_reached m K d' ck'); iexact HP
  iintro ⟨Hc, HO⟩
  iapply Hk
  isplitl [Hc]; · iexact Hc
  iexists W; iexact HO

end Transfers

end Cert.Exchange

end
-- ==== Proof.Phases.lean ====
/-
The groups of steps that the kernel repeats: what each needs and what it leaves.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The same memref at equal offsets -/

theorem slice_off {sp : Space} {s : Shape} {e : EltTy} (b : Memref sig .tc sp s e) {off off' : Fin s.rank → ℕ} (sz : Fin s.rank → ℕ)
    (i : ∀ a, off a + sz a ≤ s.size a) (i' : ∀ a, off' a + sz a ≤ s.size a) (h : off = off') :
    b.slice (Rect.unit (s := s) off sz i) (fun _ => rfl) = b.slice (Rect.unit (s := s) off' sz i') (fun _ => rfl) := by
  subst h; rfl

theorem wCol_eq (c : Dev nD) (s : Fin 16) : wCol c s = wA.slice (blkR (rot c s.val)) (fun _ => rfl) :=
  slice_off wA _ _ _ (k0_off1_eq c s)
theorem cRows_eq (c : Dev nD) : cRows c = cM.slice (rowR c) (fun _ => rfl) := slice_off cM _ _ _ (k0_off4_eq c)

theorem credit_w : ∀ r : Fin 4, (wSlot r).view.dmaCredit = NW := fun _ => rfl
theorem credit_y : ∀ s : Fin 16, (ySlot s).view.dmaCredit = NX := fun _ => rfl
theorem credit_rows {off : Fin 2 → ℕ} (inb : ∀ a, off a + S256x512.size a ≤ S4096x512.size a) :
    (cM.slice (Rect.unit (s := S4096x512) off S256x512.size inb) (fun _ => rfl)).view.dmaCredit = NX := rfl
theorem credit_c (c : Dev nD) : (cRows c).view.dmaCredit = NX := credit_rows _

/-! ## The ring of copies -/

/-- The ring slot of the `j`-th copy. -/
def ringSlot (j : ℕ) : Fin 4 := ⟨j % 4, Nat.mod_lt _ (by decide)⟩
theorem ringSlot_add (j : ℕ) : ringSlot (j + 4) = ringSlot j := Fin.ext (Nat.add_mod_right j 4)
theorem ringBlk_eq (c : Dev nD) (j : ℕ) : ringBlk c (ringSlot j) (j / 4) = rot c j := by
  show rot c (4 * (j / 4) + j % 4) = rot c j
  rw [Nat.div_add_mod]

/-- The slot of the `j`-th copy free, at the round of that copy. -/
def ready (c : Dev nD) (j : ℕ) : sProp 𝕄 :=
  iprop((∃ X, wSlotAt c (ringSlot j) X) ∗ reached ER (cell c (kW (ringSlot j))) (j / 4) ∗ atPos ER (cell c (kW (ringSlot j))) (j / 4) ∅ 0)
/-- What the `j`-th copy takes. -/
def toCopy (c : Dev nD) (j : ℕ) : sProp 𝕄 := iprop(dutyTok ER (cell c (kW (ringSlot j))) (j / 4) (0 : Duty) ∗ wColAt m c (rot c j))
/-- The `j`-th copy in flight. -/
def inflight (c : Dev nD) (j : ℕ) : sProp 𝕄 :=
  iprop(cred (tallyAt (cell c (kW (ringSlot j))) () NW) ∗ atPos ER (cell c (kW (ringSlot j))) (j / 4) ∅ 0)

theorem start_step (c : Dev nD) (s : Fin 16) :
    iprop(known m K ∗ ready c s.val ∗ toCopy m c s.val) ⊢ run c (startStep c s) fun _ => inflight c s.val := by
  unfold startStep ready toCopy inflight Prog.lift
  have hd : (0 : Duty) ∈ dutiesAt c (s.val / 4) (kW (ringSlot s.val)) := by
    show 0 ∈ if s.val / 4 < 4 then ({0} : Finset Duty) else ∅
    rw [if_pos (Nat.div_lt_of_lt_mul s.isLt)]; exact Finset.mem_singleton_self _
  iintro ⟨#HP, ⟨⟨%X, Hslot⟩, Hr, Hat⟩, Ht, Hcol⟩
  ihave Hslot := (show wSlotAt c (ringSlot s.val) X ⊢ owns (c : Thread nD τ) (wM.slice (wR (slotOf s)) (fun _ => rfl)) fullShare X from .rfl) $$ Hslot
  iapply (own_copy m K c (kW (ringSlot s.val)) (s.val / 4) (a := wCol c s) (b := wSlot (slotOf s)) (sem := wSem (slotOf s)) rfl (wcol m c (rot c s.val))
    (fun i => X (Shape.reshapeEquiv squeezes_S1x4096x512_S4096x512.numel_eq i)) hd NW (credit_w _) rfl (by
      rw [wCol_eq]
      show _ ⊢ iprop(wSlotAt c (ringSlot s.val) (wblk m c (ringBlk c (ringSlot s.val) (s.val / 4))) ∗ wColAt m c (ringBlk c (ringSlot s.val) (s.val / 4)))
      rw [ringBlk_eq]
      exact BIClass.sep_mono (owns_unsqueeze (c : Thread nD τ) _ squeezes_S1x4096x512_S4096x512 fullShare _) .rfl)) $$ [Hslot Hr Ht Hcol]
  · isplitr; · iexact HP
    isplitl [Hcol]; · rw [wCol_eq]; unfold wColAt; iexact Hcol
    isplitl [Hslot]
    · iapply (owns_squeeze (c : Thread nD τ) _ squeezes_S1x4096x512_S4096x512 fullShare _); iexact Hslot
    isplitl [Ht] <;> iassumption
  iintro Hc
  iapply (run_pure c)
  isplitl [Hc] <;> iassumption

theorem fetch_step (c : Dev nD) (s : Fin 16) (n : ℕ) :
    iprop(known m K ∗ owing c (owedSends c n) ∗ inflight c s.val)
      ⊢ run c (fetchStep c s) fun v => iprop(⌜v = wblk m c (rot c s.val)⌝ ∗ owing c (owedSends c n) ∗ ready c (s.val + 4) ∗ wColAt m c (rot c s.val)) := by
  unfold fetchStep ready inflight
  have hr : s.val / 4 < 4 := Nat.div_lt_of_lt_mul s.isLt
  have hd : dutiesAt c (s.val / 4) (kW (ringSlot s.val)) = {0} := if_pos hr
  simp only [Prog.lift, Prog.bind_op, Prog.bind_ret]
  iintro ⟨#HP, HO, Hc, Hat⟩
  iapply (own_wait_one m K c (kW (ringSlot s.val)) (s.val / 4) hd NW (credit_w (slotOf s)) rfl (owedSends c n) (wpE_waitDma2_eq 𝒱₀ (c : Thread nD τ) none Set.univ)
    (known_wait m K c _ (mayWait_w c (ringSlot s.val) n))) $$ [HO Hc Hat]
  · isplitr; · iexact HP
    isplitl [HO]; · iexact HO
    isplitl [Hc] <;> iassumption
  iintro ⟨HO, Hat, Hr, Hpay⟩
  ihave Hpay := (show payAt m c (s.val / 4) 0 (kW (ringSlot s.val)) ⊢ iprop(wSlotAt c (slotOf s) (wblk m c (rot c s.val)) ∗ wColAt m c (rot c s.val)) from
    Entails.of_eq (by rw [← ringBlk_eq]; rfl)) $$ Hpay
  icases Hpay with ⟨Hslot, Hcol⟩
  unfold wSlotAt
  iapply (own_load c wM (wR (slotOf s)) (fun _ => rfl) (q := fullShare) (wblk m c (rot c s.val))) $$ Hslot
  iintro Hslot
  iapply (run_pure c)
  isplitr; · ipureintro; rfl
  isplitl [HO]; · iexact HO
  isplitr [Hcol]
  · rw [ringSlot_add, Nat.add_div_right _ (by decide)]
    isplitl [Hslot]; · iexists _; iexact Hslot
    isplitl [Hr] <;> iassumption
  iexact Hcol

/-! ## The device's own rows, the sends -/

/-- The `i`-th block of rows of the result, at any contents and at its value. -/
def rowsAny (c i : Dev nD) : sProp 𝕄 := iprop(∃ X, owns (c : Thread nD τ) (oM.slice (rowR i) (fun _ => rfl)) fullShare X)
def rowsAt (c i : Dev nD) : sProp 𝕄 := owns (c : Thread nD τ) (oM.slice (rowR i) (fun _ => rfl)) fullShare (orow m c i)

/-- Load and overwrite a block of rows of the result. -/
theorem write_rows (c i : Dev nD) (w : S256x512.Idx → Elt F .f32) {off : Fin 2 → ℕ} (inb : ∀ a, off a + S256x512.size a ≤ S4096x512.size a)
    (h : off = ![256 * i.val, 0]) {hl hx hm} {α : Type} {k : PUnit → KProg (F := F) α} {Q : α → sProp 𝕄} :
    rowsAny c i ⊢ iprop((owns (c : Thread nD τ) (oM.slice (rowR i) (fun _ => rfl)) fullShare w -∗ run c (k ⟨⟩) Q)
      -∗ run c (.op (.load oM (Rect.unit (s := S4096x512) off S256x512.size inb).toLoadRect hl) fun _ =>
          .op (.store oM (Rect.unit (s := S4096x512) off S256x512.size inb) w Finset.univ hx hm) k) Q) := by
  subst h
  unfold rowsAny
  iintro ⟨%X, H⟩ Hk
  iapply (own_load c oM (rowR i) (fun _ => rfl) (q := fullShare) X) $$ H
  iintro H
  iapply (own_store c oM (rowR i) (fun _ => rfl) w) $$ H
  iexact Hk

theorem keep_step (c : Dev nD) :
    rowsAny c c ⊢ run c (keepStep c (scale m c) (xval m c) (wblk m c c)) fun _ => rowsAt m c c := by
  unfold keepStep rowsAt
  simp only [Prog.lift, Prog.bind_op, Prog.bind_ret]
  iintro H
  iapply (write_rows c c _ _ (k0_off2_eq c)) $$ H
  iintro H
  iapply (run_pure c)
  rw [show orow m c c = k0_pay3 (scale m c) (xval m c) (wblk m c c) from if_pos rfl]
  iexact H

/-- What the `s`-th send takes besides the value. -/
def toSend (c : Dev nD) (s : Fin 16) : sProp 𝕄 :=
  iprop(dutyTok ER (cell c (kSend s)) 0 (0 : Duty) ∗ dutyTok ER (cell (rot c s.val) (kRecv c)) 0 (0 : Duty) ∗ ySlotAny c s ∗ roomAt (rot c s.val) c)
/-- The `s`-th send's claim on its send cell. -/
def sent (c : Dev nD) (s : Fin 16) : sProp 𝕄 := cred (tallyAt (cell c (kSend s)) () NX)

theorem send_step (c : Dev nD) (s : Fin 16) (hs : s ∈ peers) :
    iprop(known m K ∗ owing c (owedSends c s.val) ∗ toSend c s)
      ⊢ run c (sendStep c (scale m c) (xval m c) s (wblk m c (rot c s.val))) fun _ => iprop(owing c (owedSends c (s.val + 1)) ∗ sent c s) := by
  have h0 : s ≠ 0 := (peers_mem s).mp hs
  have hc : c ≠ rot c s.val := (rot_ne c s h0).symm
  unfold sendStep toSend sent
  have he := sendDev_eq c s hs
  rw [owedSends_step c s.val s.isLt]
  generalize rot c s.val = d at *
  simp only [Prog.lift, Prog.bind_op, Prog.bind_ret]
  unfold ySlotAny roomAt
  iintro ⟨#HP, HO, Ht, Ht', ⟨%Y, Hy⟩, ⟨%X, Hroom⟩⟩
  iapply (own_load c yM (yR s) (fun _ => rfl) (q := fullShare) Y) $$ Hy
  iintro Hy
  iapply (own_store c yM (yR s) (fun _ => rfl) (ystaged m c d)) $$ Hy
  iintro Hy
  iapply (own_send m K c d (sendDev c s) he (kSend s) (kRecv c) (a := ySlot s) (b := cRows c) (sem := sendSem s) (sem' := recvSemOf c) rfl
    (congrArg SemLoc.dma (recvSem_of (k0_off3_eq c)).symm) (tile m c d) X
    (by show 0 ∈ if 0 = 0 ∧ s ≠ 0 then ({0} : Finset Duty) else ∅; rw [if_pos ⟨rfl, h0⟩]; exact Finset.mem_singleton_self _)
    (by show 0 ∈ if 0 = 0 ∧ c ≠ d then ({0} : Finset Duty) else ∅; rw [if_pos ⟨rfl, hc⟩]; exact Finset.mem_singleton_self _)
    NX (credit_c c) rfl rfl
    (by
      show _ ⊢ ySlotAny c s
      unfold ySlotAny
      iintro H; iexists _
      iapply (owns_unsqueeze (c : Thread nD τ) _ squeezes_S1x256x512_S256x512 fullShare _); iexact H)
    (by rw [cRows_eq]; exact .rfl)) $$ [HO Hy Ht Ht' Hroom]
  · isplitr; · iexact HP
    isplitl [HO]; · iexact HO
    isplitl [Hy]; · iapply (owns_squeeze (c : Thread nD τ) _ squeezes_S1x256x512_S256x512 fullShare _); iexact Hy
    isplitl [Hroom]; · rw [cRows_eq]; iexact Hroom
    isplitl [Ht] <;> iassumption
  iintro ⟨Hc, HO⟩
  iapply (run_pure c)
  isplitl [HO] <;> iassumption

/-- A phase without a copy ahead, -/
theorem work_step (c : Dev nD) (s : Fin 16) (hs : s ∈ peers) :
    iprop(known m K ∗ owing c (owedSends c s.val) ∗ inflight c s.val ∗ toSend c s)
      ⊢ run c (workStep c (scale m c) (xval m c) s) fun _ =>
          iprop(owing c (owedSends c (s.val + 1)) ∗ ready c (s.val + 4) ∗ wColAt m c (rot c s.val) ∗ sent c s) := by
  unfold workStep
  rw [run_bind]
  iintro ⟨#HP, HO, Hi, Hs⟩
  iapply (run_wand c (p := fetchStep c s) (fun v => iprop(⌜v = wblk m c (rot c s.val)⌝ ∗ owing c (owedSends c s.val) ∗ ready c (s.val + 4) ∗ wColAt m c (rot c s.val))))
  isplitl [HO Hi]
  · iapply (fetch_step m K c s s.val)
    isplitr; · iexact HP
    isplitl [HO] <;> iassumption
  iintro %v ⟨%hv, HO, Hr, Hcol⟩
  subst hv
  iapply (run_wand c (p := sendStep c (scale m c) (xval m c) s (wblk m c (rot c s.val))) (fun _ => iprop(owing c (owedSends c (s.val + 1)) ∗ sent c s)))
  isplitl [HO Hs]
  · iapply (send_step m K c s hs)
    isplitr; · iexact HP
    isplitl [HO] <;> iassumption
  iintro %_ ⟨HO, Hs⟩
  isplitl [HO]; · iexact HO
  isplitl [Hr]; · iexact Hr
  isplitl [Hcol] <;> iassumption

/-- and with one. -/
theorem ahead_step (c : Dev nD) (s : Fin 16) (hs : s ∈ peers) (h : (s + 3).val = s.val + 3) :
    iprop(known m K ∗ (owing c (owedSends c s.val) ∗ ready c (s.val + 3) ∗ inflight c s.val) ∗ toCopy m c (s.val + 3) ∗ toSend c s)
      ⊢ run c (aheadStep c (scale m c) (xval m c) s) fun _ =>
          iprop((owing c (owedSends c (s.val + 1)) ∗ ready c (s.val + 4) ∗ inflight c (s.val + 3)) ∗ wColAt m c (rot c s.val) ∗ sent c s) := by
  unfold aheadStep
  rw [run_bind]
  iintro ⟨#HP, ⟨HO, Hr, Hi⟩, Hc, Hs⟩
  iapply (run_wand c (p := startStep c (s + 3)) (fun _ => inflight c (s.val + 3)))
  isplitl [Hr Hc]
  · iapply (show iprop(known m K ∗ ready c (s.val + 3) ∗ toCopy m c (s.val + 3)) ⊢ run c (startStep c (s + 3)) fun _ => inflight c (s.val + 3) from h ▸ start_step m K c (s + 3))
    isplitr; · iexact HP
    isplitl [Hr] <;> iassumption
  iintro %_ Hi'
  iapply (run_wand c (p := workStep c (scale m c) (xval m c) s) (fun _ => iprop(owing c (owedSends c (s.val + 1)) ∗ ready c (s.val + 4) ∗ wColAt m c (rot c s.val) ∗ sent c s)))
  isplitl [HO Hi Hs]
  · iapply (work_step m K c s hs)
    isplitr; · iexact HP
    isplitl [HO]; · iexact HO
    isplitl [Hi] <;> iassumption
  iintro %_ ⟨HO, Hr, Hcol, Hs⟩
  isplitl [HO Hr Hi']
  · isplitl [HO]; · iexact HO
    isplitl [Hr] <;> iassumption
  isplitl [Hcol] <;> iassumption

/-! ## Signals, receives, drains -/

theorem signal_step (c : Dev nD) (s : Fin 16) (hs : s ∈ peers) (O : CellTallies nD τ sig Unit) :
    iprop(known m K ∗ owing c (O + owedSignals c s.val) ∗ dutyTok ER (cell (rot c s.val) kBar) 0 (c : Duty) ∗ roomAt c (rot c s.val))
      ⊢ run c (signalStep c s) fun _ => iprop(owing c (O + owedSignals c (s.val + 1)) ∗ emp) := by
  unfold signalStep semSignalWord
  rw [owedSignals_step c s.val s.isLt, ← add_assoc]
  iintro ⟨#HP, HO, Ht, Hroom⟩
  iapply (own_signal m K c (rot c s.val) (sigDev c s) (sigDev_eq c s hs) (rot_ne c s ((peers_mem s).mp hs)) (by decide)) $$ [HO Ht Hroom]
  · isplitr; · iexact HP
    isplitl [HO]; · iexact HO
    isplitl [Ht] <;> iassumption
  iintro HO
  iapply (run_pure c)
  isplitl [HO]; · iexact HO
  iempintro

theorem bar_step (c : Dev nD) :
    iprop(known m K ∗ owing c (owedSends c 1) ∗ cred (tallyAt (cell c kBar) () 15) ∗ atPos ER (cell c kBar) 0 ∅ 0)
      ⊢ run c (semWaitWord barS 15#32) fun _ => iprop(owing c (owedSends c 1) ∗ semVal (cell c kBar) 0 ∗ each peers fun s => roomAt (rot c s.val) c) := by
  unfold semWaitWord
  iintro ⟨#HP, HO, Hc, Hat⟩
  iapply (own_wait m K c kBar 0 15 (by decide) (O := owedSends c 1) (wpE_semWait_eq 𝒱₀ (c : Thread nD τ) none Set.univ)
    (by show 15 = (Finset.univ.erase c).card * 1; rw [Finset.card_erase_of_mem (Finset.mem_univ _)]; rfl)
    (known_wait m K c _ (mayWait_bar c 1))) $$ [HO Hc Hat]
  · isplitr; · iexact HP
    isplitl [HO]; · iexact HO
    isplitl [Hc] <;> iassumption
  iintro ⟨HO, Hat, -, Hpay⟩
  imod (own_close m K c kBar 1 (fun i hi => if_neg (by omega))) $$ [Hat] with Hz
  · isplitr; · iexact HP
    iexact Hat
  iapply (run_pure c)
  isplitl [HO]; · iexact HO
  isplitl [Hz]; · iexact Hz
  iapply (Entails.of_eq (others_rot c fun d => roomAt d c)); iexact Hpay

theorem recv_step (c : Dev nD) (r : Fin 15) :
    iprop(known m K ∗ owing c 0 ∗ (cred (tallyAt (cell c (kRecv (src c r))) () NX) ∗ atPos ER (cell c (kRecv (src c r))) 0 ∅ 0) ∗ rowsAny c (src c r))
      ⊢ run c (recvStep c r) fun _ => iprop(owing c 0 ∗ (roomAt c (src c r) ∗ semVal (cell c (kRecv (src c r))) 0) ∗ rowsAt m c (src c r)) := by
  have hne := src_ne c r
  have hd : dutiesAt c 0 (kRecv (src c r)) = {0} := if_pos ⟨rfl, hne⟩
  have h7 : k0_off7 c (BitVec.ofNat 32 (1 + r.val)) = ![256 * (src c r).val, 0] := k0_off7_eq c r
  have hsem := recvSem_of (i := src c r) (inb := k0_off5_inb c r) (k0_off5_eq c r)
  unfold recvStep
  rw [hsem]
  generalize src c r = i at *
  simp only [Prog.lift, Prog.bind_op, Prog.bind_ret]
  iintro ⟨#HP, HO, ⟨Hc, Hat⟩, Hrows⟩
  iapply (own_wait_one m K c (kRecv i) 0 hd NX (credit_rows _) rfl 0 (wpE_waitDma2_eq 𝒱₀ (c : Thread nD τ) none Set.univ) (known_wait_free m K c _)) $$ [HO Hc Hat]
  · isplitr; · iexact HP
    isplitl [HO]; · iexact HO
    isplitl [Hc] <;> iassumption
  iintro ⟨HO, Hat, -, Hpay⟩
  ihave Hpay := (show payAt m c 0 0 (kRecv i) ⊢ arrived m c i from .rfl) $$ Hpay
  imod (own_close m K c (kRecv i) 1 (fun n hn => if_neg (by omega))) $$ [Hat] with Hz
  · isplitr; · iexact HP
    iexact Hat
  unfold arrived
  rw [show cM.slice (rowR i) (fun _ => rfl) = cM.slice (Rect.unit (s := S4096x512) (k0_off7 c (BitVec.ofNat 32 (1 + r.val))) S256x512.size (k0_off7_inb c r)) (fun _ => rfl)
    from slice_off cM _ _ _ h7.symm]
  iapply (own_load c cM (Rect.unit (s := S4096x512) (k0_off7 c (BitVec.ofNat 32 (1 + r.val))) S256x512.size (k0_off7_inb c r)) (fun _ => rfl) (q := fullShare) (tile m i c)) $$ Hpay
  iintro Hpay
  iapply (write_rows c i _ _ h7) $$ Hrows
  iintro Hrows
  iapply (run_pure c)
  isplitl [HO]; · iexact HO
  isplitl [Hpay Hz]
  · isplitl [Hpay]
    · unfold roomAt
      iexists _
      rw [show cM.slice (rowR i) (fun _ => rfl) = cM.slice (Rect.unit (s := S4096x512) (k0_off7 c (BitVec.ofNat 32 (1 + r.val))) S256x512.size (k0_off7_inb c r)) (fun _ => rfl)
        from slice_off cM _ _ _ h7.symm]
      iexact Hpay
    iexact Hz
  unfold rowsAt
  rw [show orow m c i = k0_pay23 (tile m i c) from if_neg hne]
  iexact Hrows

theorem drain_step (c : Dev nD) (s : Fin 16) (hs : s ∈ peers) :
    iprop(known m K ∗ owing c 0 ∗ sent c s ∗ atPos ER (cell c (kSend s)) 0 ∅ 0)
      ⊢ run c (drainStep c s) fun _ => iprop(owing c 0 ∗ ySlotAny c s ∗ semVal (cell c (kSend s)) 0) := by
  have hd : dutiesAt c 0 (kSend s) = {0} := if_pos ⟨rfl, (peers_mem s).mp hs⟩
  unfold drainStep sent Prog.lift
  iintro ⟨#HP, HO, Hc, Hat⟩
  iapply (own_wait_one m K c (kSend s) 0 hd NX (credit_y s) rfl 0 (wpE_waitDma2_eq 𝒱₀ (c : Thread nD τ) none Set.univ) (known_wait_free m K c _)) $$ [HO Hc Hat]
  · isplitr; · iexact HP
    isplitl [HO]; · iexact HO
    isplitl [Hc] <;> iassumption
  iintro ⟨HO, Hat, -, Hpay⟩
  ihave Hpay := (show payAt m c 0 0 (kSend s) ⊢ ySlotAny c s from .rfl) $$ Hpay
  imod (own_close m K c (kSend s) 1 (fun n hn => if_neg (by omega))) $$ [Hat] with Hz
  · isplitr; · iexact HP
    iexact Hat
  iapply (run_pure c)
  isplitl [HO]; · iexact HO
  isplitl [Hpay]; · iexact Hpay
  iexact Hz

end Cert.Exchange

end
-- ==== Proof.Exchange.lean ====
/-
What one device runs after its loads, from the lists of what its phases take to the lists of what they leave.
-/
module

public import proofs.«01_k».proof.Proof.Phases

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

theorem run_bind_wand (c : Dev nD) {α β : Type} {p : KProg (F := F) α} {k : α → KProg (F := F) β} (Q : α → sProp 𝕄) {Q' : β → sProp 𝕄} :
    iprop(run c p Q ∗ (∀ a, Q a -∗ run c (k a) Q')) ⊢ run c (p >>= k) Q' := by
  rw [run_bind]; exact run_wand c Q

theorem each_append {I : Type} (Φ : I → sProp 𝕄) (l l' : List I) : each (F := F) (l ++ l') Φ ⊢ iprop(each (F := F) l Φ ∗ each (F := F) l' Φ) := by
  induction l with
  | nil => iintro H; isplitr; · iempintro
           iexact H
  | cons i l ih =>
    rw [List.cons_append, each_cons, each_cons]
    iintro ⟨H, Hl⟩
    ihave Hl := ih $$ Hl
    icases Hl with ⟨Hl, Hl'⟩
    isplitr [Hl']
    · isplitl [H] <;> iassumption
    iexact Hl'

theorem append_each {I : Type} (Φ : I → sProp 𝕄) (l l' : List I) : iprop(each (F := F) l Φ ∗ each (F := F) l' Φ) ⊢ each (F := F) (l ++ l') Φ := by
  induction l with
  | nil => iintro ⟨-, H⟩; iexact H
  | cons i l ih =>
    rw [List.cons_append, each_cons, each_cons]
    iintro ⟨⟨H, Hl⟩, Hl'⟩
    isplitl [H]; · iexact H
    iapply ih
    isplitl [Hl] <;> iassumption

/-- The phases with a copy ahead, those without, and all the blocks. -/
abbrev early : List (Fin 16) := [1, 2, 3, 4, 5, 6, 7, 8, 9, 10, 11, 12]
abbrev late : List (Fin 16) := [13, 14, 15]
abbrev blocks : List (Fin 16) := [0, 1, 2, 3, 4, 5, 6, 7, 8, 9, 10, 11, 12, 13, 14, 15]

theorem early_peers : ∀ s ∈ early, s ∈ peers ∧ (s + 3).val = s.val + 3 := by decide
theorem late_peers : ∀ s ∈ late, s ∈ peers := by decide

/-! ## The four loops -/

theorem signals_run (c : Dev nD) :
    iprop(known m K ∗ owing c (O₀ c) ∗ each peers fun s => iprop(dutyTok ER (cell (rot c s.val) kBar) 0 (c : Duty) ∗ roomAt c (rot c s.val)))
      ⊢ run c (steps (signalStep c) peers) fun _ => owing c (owedSends c 1) := by
  have h := steps_run c (known m K) (fun n => owing c (owedSends c 1 + owedSignals c n)) (signalStep c)
    (fun s => iprop(dutyTok ER (cell (rot c s.val) kBar) 0 (c : Duty) ∗ roomAt c (rot c s.val))) (fun _ => iprop(emp)) peers 1
    (fun s hs => signal_step m K c s hs _) rfl
  iintro H
  iapply (run_wand c (p := steps (signalStep c) peers) _)
  isplitl [H]
  · iapply h; iexact H
  iintro %_ ⟨HO, -⟩
  iapply (Entails.of_eq (show owing c (owedSends c 1 + owedSignals c 16) = owing c (owedSends c 1) by rw [owedSignals_done, add_zero])); iexact HO

/-- What the ring of copies is at before phase `n`. -/
def ringAt (c : Dev nD) (n : ℕ) : sProp 𝕄 :=
  iprop(owing c (owedSends c n) ∗ ready c (n + 3) ∗ inflight c n ∗ inflight c (n + 1) ∗ inflight c (n + 2))

theorem early_run (c : Dev nD) :
    iprop(known m K ∗ ringAt c 1 ∗ each early fun s => iprop(toCopy m c (s.val + 3) ∗ toSend c s))
      ⊢ run c (steps (aheadStep c (scale m c) (xval m c)) early) fun _ => iprop(ringAt c 13 ∗ each early fun s => iprop(wColAt m c (rot c s.val) ∗ sent c s)) :=
  steps_run c (known m K) (ringAt c) (aheadStep c (scale m c) (xval m c)) (fun s => iprop(toCopy m c (s.val + 3) ∗ toSend c s))
    (fun s => iprop(wColAt m c (rot c s.val) ∗ sent c s)) early 1
    (fun s hs => by
      unfold ringAt
      iintro ⟨#HP, ⟨HO, Hr, Hi, Hi', Hi''⟩, Ht, Hs⟩
      iapply (run_wand c (p := aheadStep c (scale m c) (xval m c) s)
        (fun _ => iprop((owing c (owedSends c (s.val + 1)) ∗ ready c (s.val + 4) ∗ inflight c (s.val + 3)) ∗ wColAt m c (rot c s.val) ∗ sent c s)))
      isplitl [HO Hr Hi Ht Hs]
      · iapply (ahead_step m K c s (early_peers s hs).1 (early_peers s hs).2)
        isplitr; · iexact HP
        isplitl [HO Hr Hi]
        · isplitl [HO]; · iexact HO
          isplitl [Hr] <;> iassumption
        isplitl [Ht] <;> iassumption
      iintro %_ ⟨⟨HO, Hr, Hi⟩, Hpost⟩
      rw [show s.val + 1 + 3 = s.val + 4 by omega, show s.val + 1 + 1 = s.val + 2 by omega, show s.val + 1 + 2 = s.val + 3 by omega]
      isplitr [Hpost]
      · isplitl [HO]; · iexact HO
        isplitl [Hr]; · iexact Hr
        isplitl [Hi']; · iexact Hi'
        isplitl [Hi''] <;> iassumption
      iexact Hpost) rfl

theorem late_run (c : Dev nD) :
    iprop(known m K ∗ owing c (owedSends c 13) ∗ each late fun s => iprop(inflight c s.val ∗ toSend c s))
      ⊢ run c (steps (workStep c (scale m c) (xval m c)) late) fun _ =>
          iprop(owing c 0 ∗ each late fun s => iprop(ready c (s.val + 4) ∗ wColAt m c (rot c s.val) ∗ sent c s)) := by
  have h := steps_run c (known m K) (fun n => owing c (owedSends c n)) (workStep c (scale m c) (xval m c)) (fun s => iprop(inflight c s.val ∗ toSend c s))
    (fun s => iprop(ready c (s.val + 4) ∗ wColAt m c (rot c s.val) ∗ sent c s)) late 13 (fun s hs => work_step m K c s (late_peers s hs)) rfl
  rw [show (13 + late.length) = 16 from rfl, owedSends_done] at h
  exact h

theorem receives_run (c : Dev nD) :
    iprop(known m K ∗ owing c 0 ∗ each senders fun r =>
        iprop((cred (tallyAt (cell c (kRecv (src c r))) () NX) ∗ atPos ER (cell c (kRecv (src c r))) 0 ∅ 0) ∗ rowsAny c (src c r)))
      ⊢ run c (steps (recvStep c) senders) fun _ => iprop(owing c 0 ∗ each senders fun r =>
        iprop((roomAt c (src c r) ∗ semVal (cell c (kRecv (src c r))) 0) ∗ rowsAt m c (src c r))) :=
  steps_run c (known m K) (fun _ => owing c 0) (recvStep c) _ _ senders 0 (fun r _ => recv_step m K c r) rfl

theorem drains_run (c : Dev nD) :
    iprop(known m K ∗ owing c 0 ∗ each peers fun s => iprop(sent c s ∗ atPos ER (cell c (kSend s)) 0 ∅ 0))
      ⊢ run c (steps (drainStep c) peers) fun _ => iprop(owing c 0 ∗ each peers fun s => iprop(ySlotAny c s ∗ semVal (cell c (kSend s)) 0)) :=
  steps_run c (known m K) (fun _ => owing c 0) (drainStep c) _ _ peers 1 (fun s hs => drain_step m K c s hs) rfl

/-! ## All of it -/

/-- The tokens and the staging slot of a send, all it takes but the peer's rows. -/
def sendKit (c : Dev nD) (s : Fin 16) : sProp 𝕄 :=
  iprop(dutyTok ER (cell c (kSend s)) 0 (0 : Duty) ∗ dutyTok ER (cell (rot c s.val) (kRecv c)) 0 (0 : Duty) ∗ ySlotAny c s)

theorem toSend_intro (c : Dev nD) (s : Fin 16) : iprop(sendKit c s ∗ roomAt (rot c s.val) c) ⊢ toSend (F := F) c s := by
  unfold sendKit toSend
  iintro ⟨⟨H1, H2, H3⟩, H4⟩
  isplitl [H1]; · iexact H1
  isplitl [H2]; · iexact H2
  isplitl [H3] <;> iassumption

/-- What device `c` starts its phases from, -/
def phasesIn (c : Dev nD) : sProp 𝕄 :=
  iprop((each peers fun s => iprop(dutyTok ER (cell (rot c s.val) kBar) 0 (c : Duty) ∗ roomAt c (rot c s.val)))
    ∗ (cred (tallyAt (cell c kBar) () 15) ∗ atPos ER (cell c kBar) 0 ∅ 0)
    ∗ (ready c 0 ∗ ready c 1 ∗ ready c 2 ∗ ready c 3)
    ∗ (each blocks fun j => toCopy m c j.val)
    ∗ (each peers (sendKit c))
    ∗ rowsAny c c
    ∗ (each senders fun r => iprop((cred (tallyAt (cell c (kRecv (src c r))) () NX) ∗ atPos ER (cell c (kRecv (src c r))) 0 ∅ 0) ∗ rowsAny c (src c r)))
    ∗ each peers fun s => atPos ER (cell c (kSend s)) 0 ∅ 0)
/-- and what it ends with. -/
def phasesOut (c : Dev nD) : sProp 𝕄 :=
  iprop(semVal (cell c kBar) 0
    ∗ (ready c 16 ∗ ready c 17 ∗ ready c 18 ∗ ready c 19)
    ∗ (each blocks fun j => wColAt m c (rot c j.val))
    ∗ rowsAt m c c
    ∗ (each senders fun r => iprop((roomAt c (src c r) ∗ semVal (cell c (kRecv (src c r))) 0) ∗ rowsAt m c (src c r)))
    ∗ each peers fun s => iprop(ySlotAny c s ∗ semVal (cell c (kSend s)) 0))

theorem afterLoads_run (c : Dev nD) :
    iprop(known m K ∗ owing c (O₀ c) ∗ phasesIn m c) ⊢ run c (afterLoads c (scale m c) (xval m c)) fun _ => iprop(owing c 0 ∗ phasesOut m c) := by
  unfold afterLoads phasesIn phasesOut
  iintro ⟨#HP, HO, Hsig, ⟨HcB, HatB⟩, ⟨R0, R1, R2, R3⟩, HC, HS, Hown, Hrecv, Hdrain⟩
  ihave HC := (Entails.of_eq (show each blocks (fun j => toCopy m c j.val)
    = iprop(toCopy m c 0 ∗ toCopy m c 1 ∗ toCopy m c 2 ∗ toCopy m c 3 ∗ each early fun s => toCopy m c (s.val + 3)) from rfl)) $$ HC
  icases HC with ⟨C0, C1, C2, C3, HC⟩
  iapply (run_bind_wand c (p := steps (signalStep c) peers) (fun _ => owing c (owedSends c 1)))
  isplitl [HO Hsig]
  · iapply (signals_run m K c)
    isplitr; · iexact HP
    isplitl [HO] <;> iassumption
  iintro %_ HO
  iapply (run_bind_wand c (p := semWaitWord barS 15#32) (fun _ => iprop(owing c (owedSends c 1) ∗ semVal (cell c kBar) 0 ∗ each peers fun s => roomAt (rot c s.val) c)))
  isplitl [HO HcB HatB]
  · iapply (bar_step m K c)
    isplitr; · iexact HP
    isplitl [HO]; · iexact HO
    isplitl [HcB] <;> iassumption
  iintro %_ ⟨HO, HzB, Hroom⟩
  iapply (run_bind_wand c (p := startStep c 0) (fun _ => inflight c 0))
  isplitl [R0 C0]
  · iapply (show iprop(known m K ∗ ready c 0 ∗ toCopy m c 0) ⊢ run c (startStep c 0) (fun _ => inflight c 0) from start_step m K c 0)
    isplitr; · iexact HP
    isplitl [R0] <;> iassumption
  iintro %_ I0
  iapply (run_bind_wand c (p := startStep c 1) (fun _ => inflight c 1))
  isplitl [R1 C1]
  · iapply (show iprop(known m K ∗ ready c 1 ∗ toCopy m c 1) ⊢ run c (startStep c 1) (fun _ => inflight c 1) from start_step m K c 1)
    isplitr; · iexact HP
    isplitl [R1] <;> iassumption
  iintro %_ I1
  iapply (run_bind_wand c (p := startStep c 2) (fun _ => inflight c 2))
  isplitl [R2 C2]
  · iapply (show iprop(known m K ∗ ready c 2 ∗ toCopy m c 2) ⊢ run c (startStep c 2) (fun _ => inflight c 2) from start_step m K c 2)
    isplitr; · iexact HP
    isplitl [R2] <;> iassumption
  iintro %_ I2
  iapply (run_bind_wand c (p := startStep c 3) (fun _ => inflight c 3))
  isplitl [R3 C3]
  · iapply (show iprop(known m K ∗ ready c 3 ∗ toCopy m c 3) ⊢ run c (startStep c 3) (fun _ => inflight c 3) from start_step m K c 3)
    isplitr; · iexact HP
    isplitl [R3] <;> iassumption
  iintro %_ I3
  -- block 0, whose rows the device keeps
  iapply (run_bind_wand c (p := fetchStep c 0) (fun v => iprop(⌜v = wblk m c c⌝ ∗ owing c (owedSends c 1) ∗ ready c 4 ∗ wColAt m c (rot c 0))))
  isplitl [HO I0]
  · iapply (show iprop(known m K ∗ owing c (owedSends c 1) ∗ inflight c 0)
      ⊢ run c (fetchStep c 0) fun v => iprop(⌜v = wblk m c c⌝ ∗ owing c (owedSends c 1) ∗ ready c 4 ∗ wColAt m c (rot c 0)) from by
        have h := fetch_step m K c 0 1
        rw [show rot c (0 : Fin 16).val = c from rot_zero c] at h
        rw [rot_zero]; exact h)
    isplitr; · iexact HP
    isplitl [HO] <;> iassumption
  iintro %v ⟨%hv, HO, R4, W0⟩
  subst hv
  iapply (run_bind_wand c (p := keepStep c (scale m c) (xval m c) (wblk m c c)) (fun _ => rowsAt m c c))
  isplitl [Hown]
  · iapply (keep_step m c); iexact Hown
  iintro %_ Hown
  -- the sends' kits and the rooms they go to
  ihave HS := (each_sep (sendKit c) (fun s => roomAt (rot c s.val) c) peers) $$ [HS Hroom]
  · isplitl [HS] <;> iassumption
  ihave HS := (each_mono peers (fun s _ => toSend_intro (F := F) c s)) $$ HS
  ihave HS := (show each peers (toSend c) ⊢ iprop(each early (toSend c) ∗ each late (toSend c)) from each_append (F := F) (toSend c) early late) $$ HS
  icases HS with ⟨HSe, HSl⟩
  ihave HE := (each_sep (fun s => toCopy m c (s.val + 3)) (toSend c) early) $$ [HC HSe]
  · isplitl [HC] <;> iassumption
  iapply (run_bind_wand c (p := steps (aheadStep c (scale m c) (xval m c)) early) (fun _ => iprop(ringAt c 13 ∗ each early fun s => iprop(wColAt m c (rot c s.val) ∗ sent c s))))
  isplitl [HO R4 I1 I2 I3 HE]
  · iapply (early_run m K c)
    isplitr; · iexact HP
    isplitr [HE]
    · unfold ringAt
      isplitl [HO]; · iexact HO
      isplitl [R4]; · iexact R4
      isplitl [I1]; · iexact I1
      isplitl [I2] <;> iassumption
    iexact HE
  iintro %_ ⟨HR, HE⟩
  unfold ringAt
  icases HR with ⟨HO, R16, I13, I14, I15⟩
  ihave HL := (each_sep (fun s : Fin 16 => inflight c s.val) (toSend c) late) $$ [I13 I14 I15 HSl]
  · isplitr [HSl]
    · iapply (Entails.of_eq (show iprop(inflight c 13 ∗ inflight c 14 ∗ inflight c 15 ∗ emp) = each late (fun s => inflight (F := F) c s.val) from rfl))
      isplitl [I13]; · iexact I13
      isplitl [I14]; · iexact I14
      isplitl [I15]; · iexact I15
      iempintro
    iexact HSl
  iapply (run_bind_wand c (p := steps (workStep c (scale m c) (xval m c)) late) (fun _ => iprop(owing c 0 ∗ each late fun s => iprop(ready c (s.val + 4) ∗ wColAt m c (rot c s.val) ∗ sent c s))))
  isplitl [HO HL]
  · iapply (late_run m K c)
    isplitr; · iexact HP
    isplitl [HO] <;> iassumption
  iintro %_ ⟨HO, HL⟩
  ihave HL := (each_unsep (fun s : Fin 16 => ready c (s.val + 4)) (fun s => iprop(wColAt m c (rot c s.val) ∗ sent c s)) late) $$ HL
  icases HL with ⟨HRl, HL⟩
  ihave HRl := (Entails.of_eq (show each late (fun s => ready (F := F) c (s.val + 4)) = iprop(ready c 17 ∗ ready c 18 ∗ ready c 19 ∗ emp) from rfl)) $$ HRl
  icases HRl with ⟨R17, R18, R19, -⟩
  ihave HE := (show iprop((each early fun s => iprop(wColAt m c (rot c s.val) ∗ sent c s)) ∗ each late fun s => iprop(wColAt m c (rot c s.val) ∗ sent c s))
    ⊢ each peers fun s => iprop(wColAt m c (rot c s.val) ∗ sent c s) from append_each _ early late) $$ [HE HL]
  · isplitl [HE] <;> iassumption
  ihave HE := (each_unsep (fun s : Fin 16 => wColAt m c (rot c s.val)) (sent c) peers) $$ HE
  icases HE with ⟨HW, Hsent⟩
  iapply (run_bind_wand c (p := steps (recvStep c) senders) (fun _ => iprop(owing c 0 ∗ each senders fun r =>
        iprop((roomAt c (src c r) ∗ semVal (cell c (kRecv (src c r))) 0) ∗ rowsAt m c (src c r)))))
  isplitl [HO Hrecv]
  · iapply (receives_run m K c)
    isplitr; · iexact HP
    isplitl [HO] <;> iassumption
  iintro %_ ⟨HO, Hrecv⟩
  ihave HD := (each_sep (sent c) (fun s => atPos ER (cell c (kSend s)) 0 ∅ 0) peers) $$ [Hsent Hdrain]
  · isplitl [Hsent] <;> iassumption
  iapply (run_wand c (p := steps (drainStep c) peers) (fun _ => iprop(owing c 0 ∗ each peers fun s => iprop(ySlotAny c s ∗ semVal (cell c (kSend s)) 0))))
  isplitl [HO HD]
  · iapply (drains_run m K c)
    isplitr; · iexact HP
    isplitl [HO] <;> iassumption
  iintro %_ ⟨HO, HD⟩
  isplitl [HO]; · iexact HO
  isplitl [HzB]; · iexact HzB
  isplitl [R16 R17 R18 R19]
  · isplitl [R16]; · iexact R16
    isplitl [R17]; · iexact R17
    isplitl [R18] <;> iassumption
  isplitl [W0 HW]
  · iapply (show iprop(wColAt m c (rot c 0) ∗ each peers fun j => wColAt m c (rot c j.val)) ⊢ each blocks fun j => wColAt m c (rot c j.val) from .rfl)
    isplitl [W0] <;> iassumption
  isplitl [Hown]; · iexact Hown
  isplitl [Hrecv] <;> iassumption

end Cert.Exchange

end
-- ==== Proof.Body.lean ====
/-
One device's whole body: its buffers, positions and tokens dealt out to the phases, and put together again at the end.
-/
module

public import proofs.«01_k».proof.Proof.Exchange
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## Lists of the devices, the slots and the cells -/

theorem rot_all : ∀ c : Dev nD, (blocks.map fun j => rot c j.val).Nodup ∧ (blocks.map fun j => rot c j.val).toFinset = Finset.univ := by decide
theorem all_rot (c : Dev nD) (Φ : Dev nD → sProp 𝕄) : bigSep Finset.univ Φ = each (F := F) blocks fun j => Φ (rot c j.val) := by
  rw [bigSep_each Φ _ (rot_all c).1 (rot_all c).2, each_map]
theorem all_peers (Φ : Fin 16 → sProp 𝕄) : bigSep Finset.univ Φ = iprop(Φ 0 ∗ each (F := F) peers Φ) := bigSep_each Φ blocks (by decide) (by decide)
theorem all_blocks (Φ : Fin 16 → sProp 𝕄) : bigSep Finset.univ Φ = each (F := F) blocks Φ := bigSep_each Φ blocks (by decide) (by decide)
theorem all_others (c : Dev nD) (Φ : Dev nD → sProp 𝕄) : bigSep Finset.univ Φ = iprop(Φ c ∗ bigSep (Finset.univ.erase c) Φ) := bigSep_erase (Finset.mem_univ c)
theorem all_src (c : Dev nD) (Φ : Dev nD → sProp 𝕄) : bigSep Finset.univ Φ = iprop(Φ c ∗ each (F := F) senders fun r => Φ (src c r)) := by
  rw [all_others c, others_src]
theorem all_away (c : Dev nD) (Φ : Dev nD → sProp 𝕄) : bigSep Finset.univ Φ = iprop(Φ c ∗ each (F := F) peers fun s => Φ (rot c s.val)) := by
  rw [all_others c, others_rot]
theorem all_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

theorem cells_eq (Φ : CK → sProp 𝕄) : bigSep Finset.univ Φ = iprop(Φ kBar ∗ bigSep Finset.univ fun k : Own => Φ (.inr k)) := by
  have h : bigSep Finset.univ Φ = iprop(bigSep Finset.univ (fun u : Unit => Φ (.inl u)) ∗ bigSep Finset.univ fun k : Own => Φ (.inr k)) := bigSep_univ_sum Φ
  rw [h, show (Finset.univ : Finset Unit) = {()} from rfl, bigSep_singleton]
theorem own_eq (Φ : Own → sProp 𝕄) : bigSep Finset.univ Φ
    = iprop(bigSep Finset.univ (fun r : Fin 4 => Φ (.inl r)) ∗ bigSep Finset.univ (fun s : Fin 16 => Φ (.inr (.inl s)))
      ∗ bigSep Finset.univ fun i : Fin 16 => Φ (.inr (.inr i))) := by
  have h : bigSep Finset.univ Φ = iprop(bigSep Finset.univ (fun r : Fin 4 => Φ (.inl r)) ∗ bigSep Finset.univ fun k : Fin 16 ⊕ Fin 16 => Φ (.inr k)) := bigSep_univ_sum Φ
  have h' : bigSep Finset.univ (fun k : Fin 16 ⊕ Fin 16 => Φ (.inr k))
    = iprop(bigSep Finset.univ (fun s : Fin 16 => Φ (.inr (.inl s))) ∗ bigSep Finset.univ fun i : Fin 16 => Φ (.inr (.inr i))) := bigSep_univ_sum _
  rw [h, h']

/-! ## Tokens -/

/-- The duties a device is to pay: a barrier duty and a receive duty of each device, a send duty of its own for each
    staging slot, the copies of its ring. -/
abbrev Tok : Type := Fin 16 ⊕ (Fin 16 ⊕ (Fin 16 ⊕ Fin 16))
def tokKey (c : Dev nD) : Tok → GSem nD τ sig × ℕ × Duty
  | .inl d => (cell d kBar, 0, c)
  | .inr (.inl d) => (cell d (kRecv c), 0, 0)
  | .inr (.inr (.inl s)) => (cell c (kSend s), 0, 0)
  | .inr (.inr (.inr j)) => (cell c (kW (ringSlot j.val)), j.val / 4, 0)
def tok (c : Dev nD) (t : Tok) : sProp 𝕄 := dutyTok ER (tokKey c t).1 (tokKey c t).2.1 (tokKey c t).2.2

theorem toks_eq (Φ : Tok → sProp 𝕄) : bigSep Finset.univ Φ
    = iprop(bigSep Finset.univ (fun d : Fin 16 => Φ (.inl d)) ∗ bigSep Finset.univ (fun d : Fin 16 => Φ (.inr (.inl d)))
      ∗ bigSep Finset.univ (fun s : Fin 16 => Φ (.inr (.inr (.inl s)))) ∗ bigSep Finset.univ fun j : Fin 16 => Φ (.inr (.inr (.inr j)))) := by
  have h : bigSep Finset.univ Φ = iprop(bigSep Finset.univ (fun r : Fin 16 => Φ (.inl r)) ∗ bigSep Finset.univ fun k => Φ (.inr k)) := bigSep_univ_sum Φ
  have h' : bigSep Finset.univ (fun k : Fin 16 ⊕ (Fin 16 ⊕ Fin 16) => Φ (.inr k))
    = iprop(bigSep Finset.univ (fun s : Fin 16 => Φ (.inr (.inl s))) ∗ bigSep Finset.univ fun k => Φ (.inr (.inr k))) := bigSep_univ_sum _
  have h'' : bigSep Finset.univ (fun k : Fin 16 ⊕ Fin 16 => Φ (.inr (.inr k)))
    = iprop(bigSep Finset.univ (fun s : Fin 16 => Φ (.inr (.inr (.inl s)))) ∗ bigSep Finset.univ fun j : Fin 16 => Φ (.inr (.inr (.inr j)))) := bigSep_univ_sum _
  rw [h, h', h'']

/-! ## Before the phases and after them -/

/-- The copy of `w_mat` a device is given. -/
def wWhole (c : Dev nD) : sProp 𝕄 := owns (c : Thread nD τ) wA fullShare (m ((c : Thread nD τ).loc main_arg1))
/-- The three scratch buffers at any contents. -/
def scratch (c : Dev nD) : sProp 𝕄 :=
  iprop((∃ X, owns (c : Thread nD τ) wM fullShare X) ∗ (∃ X, owns (c : Thread nD τ) yM fullShare X) ∗ ∃ X, owns (c : Thread nD τ) cM fullShare X)

/-- What device `c` holds of the exchange's records at launch. -/
def records (c : Dev nD) : sProp 𝕄 :=
  iprop((bigSep Finset.univ fun k : CK => atPos ER (cell c k) 0 ∅ 0) ∗ (bigSep Finset.univ fun t : Tok => tok c t)
    ∗ cred (tallyAt (cell c kBar) () 15) ∗ bigSep (Finset.univ.erase c) fun i => cred (tallyAt (cell c (kRecv i)) () NX))

def Φ₀ (c : Dev nD) : sProp 𝕄 := iprop((∃ K, known m K) ∗ records c ∗ wWhole m c ∗ scratch c)
def Φ₁ (c : Dev nD) : sProp 𝕄 :=
  iprop(wWhole m c ∗ semVal (cell c kBar) 0 ∗ (bigSep Finset.univ fun k : Own => semVal (cell c (.inr k)) 0) ∗ scratch c)

/-- What the phases leave alone. -/
def unused (c : Dev nD) : sProp 𝕄 :=
  iprop(roomAt c c ∗ ySlotAny c 0 ∗ atPos ER (cell c (kSend 0)) 0 ∅ 0 ∗ atPos ER (cell c (kRecv c)) 0 ∅ 0)

theorem w_cols (c : Dev nD) : wWhole m c ⊢ each (F := F) blocks fun j => wColAt m c (rot c j.val) :=
  (show wWhole m c ⊢ bigSep Finset.univ fun t : Fin 16 => wColAt m c t from
    owns_rects (c : Thread nD τ) wA fullShare blkR (fun _ _ => rfl) blk_disj blk_cover (m ((c : Thread nD τ).loc main_arg1))).trans
    (Entails.of_eq (all_rot c _))

theorem cols_w (c : Dev nD) : (each (F := F) blocks fun j => wColAt m c (rot c j.val)) ⊢ wWhole m c :=
  (Entails.of_eq (all_rot (F := F) c (wColAt m c)).symm).trans
    (owns_of_rects (c : Thread nD τ) wA fullShare blkR (fun _ _ => rfl) blk_disj blk_cover (m ((c : Thread nD τ).loc main_arg1)))

/-- Parts at any contents are the whole at some contents. -/
theorem any_join (c : Dev nD) {sp : Space} {sh : Shape} {e : EltTy} (b : Memref sig .tc sp sh e) {T : Type} [Fintype T] [DecidableEq T] (r : T → Rect sh)
    (hr : ∀ t a, (r t).stride a = 1) (hd : ∀ t t', t ≠ t' → Disjoint (r t).set (r t').set)
    (hcov : (Finset.univ : Finset T).biUnion (fun t => (r t).set) = Finset.univ) :
    (bigSep Finset.univ fun t => (iprop(∃ X, owns (c : Thread nD τ) (b.slice (r t) (hr t)) fullShare X) : sProp 𝕄))
      ⊢ iprop(∃ X, owns (c : Thread nD τ) b fullShare X) := by
  have h : (bigSep Finset.univ fun t => (iprop(∃ X, owns (c : Thread nD τ) (b.slice (r t) (hr t)) fullShare X) : sProp 𝕄))
      ⊢ iprop(∃ Z : (t : T) → ((r t).shape.Idx → Elt F e), bigSep Finset.univ fun t => owns (c : Thread nD τ) (b.slice (r t) (hr t)) fullShare (Z t)) :=
    bigSep_exists_pi Finset.univ fun t X => owns (c : Thread nD τ) (b.slice (r t) (hr t)) fullShare X
  iintro H
  ihave H := h $$ H
  icases H with ⟨%Z, H⟩
  iexists Rect.glue r hcov Z
  iapply (owns_of_rects (c : Thread nD τ) b fullShare r hr hd hcov (Rect.glue r hcov Z))
  iapply (Entails.of_eq (bigSep_congr (s := Finset.univ) fun t _ => by
    rw [show (fun j => Rect.glue r hcov Z ((r t).emb j)) = Z t from funext fun j => Rect.glue_emb r hcov hd Z t j]))
  iexact H

theorem ready_zero (c : Dev nD) (r : Fin 4) (j : ℕ) (hj : ringSlot j = r) (h0 : j / 4 = 0) :
    iprop(known m K ∗ (∃ X, owns (c : Thread nD τ) (wM.slice (wR r) (fun _ => rfl)) fullShare X) ∗ atPos ER (cell c (kW r)) 0 ∅ 0) ⊢ ready c j := by
  subst hj
  unfold ready wSlotAt
  rw [h0]
  iintro ⟨#HP, HX, Hat⟩
  isplitl [HX]; · iexact HX
  isplitr; · iapply (known_reached m K c (kW (ringSlot j))); iexact HP
  iexact Hat

theorem ready_end (c : Dev nD) (r : Fin 4) (j : ℕ) (hj : ringSlot j = r) (h4 : j / 4 = 4) :
    iprop(known m K ∗ ready c j) ⊢ iprop(|={Set.univ}=> ((∃ X, owns (c : Thread nD τ) (wM.slice (wR r) (fun _ => rfl)) fullShare X) ∗ semVal (cell c (kW r)) 0)) := by
  subst hj
  unfold ready wSlotAt
  rw [h4]
  iintro ⟨#HP, HX, -, Hat⟩
  imod (own_close m K c (kW (ringSlot j)) 4 (fun i hi => if_neg (Nat.not_lt.mpr hi))) $$ [Hat] with Hz
  · isplitr; · iexact HP
    iexact Hat
  imodintro
  isplitl [HX]; · iexact HX
  iexact Hz

theorem slots_split (c : Dev nD) : (iprop(∃ X, owns (c : Thread nD τ) yM fullShare X) : sProp 𝕄) ⊢ iprop(ySlotAny c 0 ∗ each peers (ySlotAny c)) :=
  (any_split c yM yR (fun _ _ => rfl) yR_disj yR_cover).trans (Entails.of_eq (all_peers (ySlotAny (F := F) c)))
theorem slots_join (c : Dev nD) : iprop(ySlotAny c 0 ∗ each peers (ySlotAny c)) ⊢ (iprop(∃ X, owns (c : Thread nD τ) yM fullShare X) : sProp 𝕄) :=
  (Entails.of_eq (all_peers (ySlotAny (F := F) c)).symm).trans (any_join c yM yR (fun _ _ => rfl) yR_disj yR_cover)
theorem rooms_split (c : Dev nD) :
    (iprop(∃ X, owns (c : Thread nD τ) cM fullShare X) : sProp 𝕄) ⊢ iprop(roomAt c c ∗ each peers fun s => roomAt c (rot c s.val)) :=
  (any_split c cM rowR (fun _ _ => rfl) row_disj row_cover).trans (Entails.of_eq (all_away (F := F) c (roomAt c)))
theorem rooms_join (c : Dev nD) :
    iprop(roomAt c c ∗ each senders fun r => roomAt c (src c r)) ⊢ (iprop(∃ X, owns (c : Thread nD τ) cM fullShare X) : sProp 𝕄) :=
  (Entails.of_eq (all_src (F := F) c (roomAt c)).symm).trans (any_join c cM rowR (fun _ _ => rfl) row_disj row_cover)
theorem rows_split (c : Dev nD) :
    (iprop(∃ X, owns (c : Thread nD τ) oM fullShare X) : sProp 𝕄) ⊢ iprop(rowsAny c c ∗ each senders fun r => rowsAny c (src c r)) :=
  (any_split c oM rowR (fun _ _ => rfl) row_disj row_cover).trans (Entails.of_eq (all_src (F := F) c (rowsAny c)))
theorem rows_join (c : Dev nD) :
    iprop(rowsAt m c c ∗ each senders fun r => rowsAt m c (src c r)) ⊢ owns (c : Thread nD τ) oM fullShare (outAt m c) :=
  (Entails.of_eq ((all_src (F := F) c (rowsAt m c)).symm.trans (bigSep_congr (s := Finset.univ) fun i _ => by
      unfold rowsAt; rw [show orow m c i = (fun j => outAt m c ((rowR i).emb j)) from funext fun j => (outAt_rows m c i j).symm]))).trans
    (owns_of_rects (c : Thread nD τ) oM fullShare rowR (fun _ _ => rfl) row_disj row_cover (outAt m c))

/-- What a device holds is what its phases take and what they leave alone. -/
theorem phases_begin (c : Dev nD) :
    iprop(known m K ∗ records c ∗ wWhole m c ∗ scratch c ∗ ∃ X, owns (c : Thread nD τ) oM fullShare X) ⊢ iprop(phasesIn m c ∗ unused c) := by
  unfold records scratch
  rw [cells_eq, own_eq, all_four, all_peers (fun s => atPos ER (cell c (.inr (.inr (.inl s)))) 0 ∅ 0),
    all_src c (fun s => atPos ER (cell c (.inr (.inr (.inr s)))) 0 ∅ 0), toks_eq, others_src c (fun i => cred (tallyAt (cell c (kRecv i)) () NX)),
    all_away c (fun d => tok c (.inl d)), all_away c (fun d => tok c (.inr (.inl d))), all_peers (fun s => tok c (.inr (.inr (.inl s)))),
    all_blocks (fun j => tok c (.inr (.inr (.inr j))))]
  iintro ⟨#HP, ⟨⟨HatB, ⟨A0, A1, A2, A3⟩, ⟨AS0, AS⟩, ⟨ARc, AR⟩⟩, ⟨⟨-, TB⟩, ⟨-, TR⟩, ⟨-, TS⟩, TW⟩, HcB, HcR⟩, HW, ⟨HwM, HyM, HcM⟩, HoM⟩
  ihave HwM := (any_split c wM wR (fun _ _ => rfl) wR_disj wR_cover) $$ HwM
  ihave HwM := (Entails.of_eq (all_four (fun r => iprop(∃ X, owns (c : Thread nD τ) (wM.slice (wR r) (fun _ => rfl)) fullShare X)))) $$ HwM
  icases HwM with ⟨W0, W1, W2, W3⟩
  ihave HyM := (slots_split c) $$ HyM
  icases HyM with ⟨Y0, HY⟩
  ihave HcM := (rooms_split c) $$ HcM
  icases HcM with ⟨Hroom, HC⟩
  ihave HoM := (rows_split c) $$ HoM
  icases HoM with ⟨Hown, HO⟩
  ihave HW := (w_cols m c) $$ HW
  unfold phasesIn unused
  isplitr [Hroom Y0 AS0 ARc]
  · isplitl [TB HC]
    · iapply (each_sep (fun s : Fin 16 => dutyTok ER (cell (rot c s.val) kBar) 0 (c : Duty)) (fun s => roomAt c (rot c s.val)) peers)
      isplitl [TB]; · iexact TB
      iexact HC
    isplitl [HcB HatB]
    · isplitl [HcB] <;> iassumption
    isplitl [W0 W1 W2 W3 A0 A1 A2 A3]
    · isplitl [W0 A0]
      · iapply (ready_zero m K c 0 0 rfl rfl); isplitr; · iexact HP
        isplitl [W0] <;> iassumption
      isplitl [W1 A1]
      · iapply (ready_zero m K c 1 1 rfl rfl); isplitr; · iexact HP
        isplitl [W1] <;> iassumption
      isplitl [W2 A2]
      · iapply (ready_zero m K c 2 2 rfl rfl); isplitr; · iexact HP
        isplitl [W2] <;> iassumption
      · iapply (ready_zero m K c 3 3 rfl rfl); isplitr; · iexact HP
        isplitl [W3] <;> iassumption
    isplitl [TW HW]
    · iapply (each_sep (fun j : Fin 16 => dutyTok ER (cell c (kW (ringSlot j.val))) (j.val / 4) (0 : Duty)) (fun j => wColAt m c (rot c j.val)) blocks)
      isplitl [TW]; · iexact TW
      iexact HW
    isplitl [TS TR HY]
    · iapply (each_sep (fun s : Fin 16 => dutyTok ER (cell c (kSend s)) 0 (0 : Duty))
        (fun s => iprop(dutyTok ER (cell (rot c s.val) (kRecv c)) 0 (0 : Duty) ∗ ySlotAny c s)) peers)
      isplitl [TS]; · iexact TS
      iapply (each_sep (fun s : Fin 16 => dutyTok ER (cell (rot c s.val) (kRecv c)) 0 (0 : Duty)) (ySlotAny c) peers)
      isplitl [TR]; · iexact TR
      iexact HY
    isplitl [Hown]; · iexact Hown
    isplitl [HcR AR HO]
    · iapply (each_sep (fun r => iprop(cred (tallyAt (cell c (kRecv (src c r))) () NX) ∗ atPos ER (cell c (kRecv (src c r))) 0 ∅ 0)) (fun r => rowsAny c (src c r)) senders)
      isplitr [HO]
      · iapply (each_sep (fun r => cred (tallyAt (cell c (kRecv (src c r))) () NX)) (fun r => atPos ER (cell c (kRecv (src c r))) 0 ∅ 0) senders)
        isplitl [HcR]; · iexact HcR
        iexact AR
      iexact HO
    iexact AS
  isplitl [Hroom]; · iexact Hroom
  isplitl [Y0]; · iexact Y0
  isplitl [AS0]; · iexact AS0
  iexact ARc

/-- What the phases leave is the result, the rest of the buffers whole again, and every cell closed. -/
theorem phases_end (c : Dev nD) :
    iprop(known m K ∗ unused c ∗ phasesOut m c) ⊢ iprop(|={Set.univ}=> (Φ₁ m c ∗ owns (c : Thread nD τ) oM fullShare (outAt m c))) := by
  unfold unused phasesOut
  iintro ⟨#HP, ⟨Hroom, Y0, AS0, ARc⟩, HzB, ⟨R0, R1, R2, R3⟩, HW, Hown, HR, HS⟩
  ihave HR := (each_unsep (fun r => iprop(roomAt c (src c r) ∗ semVal (cell c (kRecv (src c r))) 0)) (fun r => rowsAt m c (src c r)) senders) $$ HR
  icases HR with ⟨HR, HO⟩
  ihave HR := (each_unsep (fun r => roomAt c (src c r)) (fun r => semVal (cell c (kRecv (src c r))) 0) senders) $$ HR
  icases HR with ⟨HC, ZR⟩
  ihave HS := (each_unsep (ySlotAny c) (fun s => semVal (cell c (kSend s)) 0) peers) $$ HS
  icases HS with ⟨HY, ZS⟩
  imod (own_close m K c (kSend 0) 0 (fun i _ => if_neg fun h => h.2 rfl)) $$ [AS0] with ZS0
  · isplitr; · iexact HP
    iexact AS0
  imod (own_close m K c (kRecv c) 0 (fun i _ => if_neg fun h => h.2 rfl)) $$ [ARc] with ZRc
  · isplitr; · iexact HP
    iexact ARc
  imod (ready_end m K c 0 16 rfl rfl) $$ [R0] with ⟨W0, Z0⟩
  · isplitr; · iexact HP
    iexact R0
  imod (ready_end m K c 1 17 rfl rfl) $$ [R1] with ⟨W1, Z1⟩
  · isplitr; · iexact HP
    iexact R1
  imod (ready_end m K c 2 18 rfl rfl) $$ [R2] with ⟨W2, Z2⟩
  · isplitr; · iexact HP
    iexact R2
  imod (ready_end m K c 3 19 rfl rfl) $$ [R3] with ⟨W3, Z3⟩
  · isplitr; · iexact HP
    iexact R3
  imodintro
  unfold Φ₁ scratch
  rw [own_eq, all_four, all_peers (fun s => semVal (cell c (.inr (.inr (.inl s)))) 0), all_src c (fun s => semVal (cell c (.inr (.inr (.inr s)))) 0)]
  isplitr [Hown HO]
  · isplitl [HW]; · iapply (cols_w m c); iexact HW
    isplitl [HzB]; · iexact HzB
    isplitl [Z0 Z1 Z2 Z3 ZS0 ZS ZRc ZR]
    · isplitl [Z0 Z1 Z2 Z3]
      · isplitl [Z0]; · iexact Z0
        isplitl [Z1]; · iexact Z1
        isplitl [Z2] <;> iassumption
      isplitl [ZS0 ZS]
      · isplitl [ZS0] <;> iassumption
      isplitl [ZRc] <;> iassumption
    isplitl [W0 W1 W2 W3]
    · iapply (any_join c wM wR (fun _ _ => rfl) wR_disj wR_cover)
      iapply (Entails.of_eq (all_four (fun r => iprop(∃ X, owns (c : Thread nD τ) (wM.slice (wR r) (fun _ => rfl)) fullShare X))).symm)
      isplitl [W0]; · iexact W0
      isplitl [W1]; · iexact W1
      isplitl [W2] <;> iassumption
    isplitl [Y0 HY]
    · iapply (slots_join c)
      isplitl [Y0] <;> iassumption
    · iapply (rooms_join c)
      isplitl [Hroom] <;> iassumption
  iapply (rows_join m c)
  isplitl [Hown] <;> iassumption

/-! ## The body -/

/-- A staging buffer at contents `X`. -/
abbrev stg (c : Dev nD) (b : Ref sig .tc) (X : b.ty.Contents (Elt F)) : sProp 𝕄 := owns (c : Thread nD τ) (Memref.whole b) fullShare X

theorem zero_off : (![0, 0] : Fin 2 → Nat) = fun _ => 0 := funext fun a => by fin_cases a <;> rfl

/-- The body from its loads, as one program. -/
theorem body_flat : body (F := F) = .op .deviceId fun c =>
    smemLoadElt aM r1 (View.loads_smem_one rfl numel1_S1) (Shape.Idx.first (numel1_S1.symm ▸ Nat.one_pos)) fun a =>
      smemLoadElt bM r1 (View.loads_smem_one rfl numel1_S1) (Shape.Idx.first (numel1_S1.symm ▸ Nat.one_pos)) fun b =>
        .op (.load xM (Rect.unit (s := S256x4096) ![0, 0] S256x4096.size inb_S256x4096_S256x4096_0_0).toLoadRect (View.loadsAt_vmem h_S256x4096)) fun x =>
          afterLoads c (k0_pay1 a b) (k0_pay2 x) := rfl

theorem read_x (f : (cc0_stg0_0 : Ref sig .tc).ty.Contents (Elt F)) :
    (xM : Memref sig .tc .vmem S256x4096 .i8).view.readAt (Elt F) (Rect.unit (s := S256x4096) ![0, 0] S256x4096.size inb_S256x4096_S256x4096_0_0).toLoadRect f = f :=
  Memref.readAt_unit_zero (Elt F) cc0_stg0_0 zero_off _ f

/-- The whole body on device `c`, from its operands staged. -/
theorem body_run (c : Dev nD) :
    iprop(known m K ∗ records c ∗ wWhole m c ∗ scratch c ∗ owing c (O₀ c) ∗ stg c cc0_stg0_0 (xstg m c) ∗ stg c cc0_stg1_0 (astg m c) ∗ stg c cc0_stg2_0 (bstg m c)
        ∗ ∃ X, stg c cc0_stg3_0 X)
      ⊢ run c (body (F := F)) fun _ => iprop(Φ₁ m c ∗ owing c 0 ∗ stg c cc0_stg0_0 (xstg m c) ∗ stg c cc0_stg1_0 (astg m c) ∗ stg c cc0_stg2_0 (bstg m c)
        ∗ stg c cc0_stg3_0 (outAt m c)) := by
  iintro ⟨#HP, Hrec, HW, Hscr, HO, Hx, Ha, Hb, Hout⟩
  ihave H := (phases_begin m K c) $$ [Hrec HW Hscr Hout]
  · isplitr; · iexact HP
    isplitl [Hrec]; · iexact Hrec
    isplitl [HW]; · iexact HW
    isplitl [Hscr] <;> iassumption
  icases H with ⟨Hin, Hun⟩
  ihave Hx := (Entails.of_eq (owns_whole (c : Thread nD τ) cc0_stg0_0 fullShare (xstg m c))) $$ Hx
  ihave Ha := (Entails.of_eq (owns_whole (c : Thread nD τ) cc0_stg1_0 fullShare (astg m c))) $$ Ha
  ihave Hb := (Entails.of_eq (owns_whole (c : Thread nD τ) cc0_stg2_0 fullShare (bstg m c))) $$ Hb
  rw [body_flat]
  unfold run
  rw [wp_deviceId]
  iapply (wp_smemLoadElt 𝒱₀ (c : Thread nD τ) none Set.univ (m := aM) (r := r1) (S := Finset.univ) (Finset.subset_univ _)) $$ Ha
  iintro Ha
  iapply (wp_smemLoadElt 𝒱₀ (c : Thread nD τ) none Set.univ (m := bM) (r := r1) (S := Finset.univ) (Finset.subset_univ _)) $$ Hb
  iintro Hb
  iapply (wp_load 𝒱₀ (c : Thread nD τ) none Set.univ (m := xM) (Finset.subset_univ _)) $$ Hx
  iintro Hx
  rw [read_x]
  iapply (wp_fupd frame (wpE (defs₀ (F := F)) 𝒱₀ (c : Thread nD τ) none) (E := Set.univ) (afterLoads c (scale m c) (xval m c)) _)
  iapply (run_wand c (p := afterLoads c (scale m c) (xval m c)) (fun _ => iprop(owing c 0 ∗ phasesOut m c)))
  isplitl [HO Hin]
  · iapply (afterLoads_run m K c)
    isplitr; · iexact HP
    isplitl [HO] <;> iassumption
  iintro %_ ⟨HO, Hph⟩
  imod (phases_end m K c) $$ [Hun Hph] with ⟨HΦ, Hout⟩
  · isplitr; · iexact HP
    isplitl [Hun] <;> iassumption
  imodintro
  isplitl [HΦ]; · iexact HΦ
  isplitl [HO]; · iexact HO
  isplitl [Hx]; · iapply (Entails.of_eq (owns_whole (c : Thread nD τ) cc0_stg0_0 fullShare (xstg m c)).symm); iexact Hx
  isplitl [Ha]; · iapply (Entails.of_eq (owns_whole (c : Thread nD τ) cc0_stg1_0 fullShare (astg m c)).symm); iexact Ha
  isplitl [Hb]; · iapply (Entails.of_eq (owns_whole (c : Thread nD τ) cc0_stg2_0 fullShare (bstg m c)).symm); iexact Hb
  iexact Hout

/-! ## The call's obligation -/

/-- The call: what its windows hold before and after the body, what the body starts from and ends with, what the core owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => astg m c
    | ⟨2, _⟩ => bstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

def obPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def obPost (c : Dev nD) : sProp 𝕄 :=
  iprop(Φ₁ m c ∗ (dats m ρ 0 c).owesAt () t0_0.succ ∗ stg c cc0_stg0_0 (xstg m c) ∗ stg c cc0_stg1_0 (astg m c) ∗ stg c cc0_stg2_0 (bstg m c)
    ∗ stg c cc0_stg3_0 (outAt m c))

theorem before_x (c : Dev nD) (d) : (dats m ρ 0 c).before (0 : Fin 4) t0_0 d = xstg m c := by
  unfold Dat.before; rw [if_pos (fetch0_0 t0_0)]; rfl
theorem before_a (c : Dev nD) (d) : (dats m ρ 0 c).before (1 : Fin 4) t0_0 d = astg m c := by
  unfold Dat.before; rw [if_pos (fetch0_1 t0_0)]; rfl
theorem before_b (c : Dev nD) (d) : (dats m ρ 0 c).before (2 : Fin 4) t0_0 d = bstg m c := by
  unfold Dat.before; rw [if_pos (fetch0_2 t0_0)]; rfl

theorem ob_run (c : Dev nD) : obPre m ρ c ⊢ run c (body (F := F)) fun _ => obPost m ρ c := by
  unfold obPre obPost Φ₀ Dat.owesAt Pipeline.owesWithin
  rw [show (dats m ρ 0 c).owed t0_0.castSucc = O₀ c from rfl, show (dats m ρ 0 c).owed t0_0.succ = 0 from rfl]
  iintro ⟨⟨⟨%K, HP⟩, Hrec, HW, Hscr⟩, ⟨%W, -, HO⟩, ⟨%d0, H0⟩, ⟨%d1, H1⟩, ⟨%d2, H2⟩, ⟨%d3, H3⟩⟩
  ihave H0 := (Entails.of_eq (by rw [before_x]) : stg c cc0_stg0_0 ((dats m ρ 0 c).before (0 : Fin 4) t0_0 d0) ⊢ stg c cc0_stg0_0 (xstg m c)) $$ H0
  ihave H1 := (Entails.of_eq (by rw [before_a]) : stg c cc0_stg1_0 ((dats m ρ 0 c).before (1 : Fin 4) t0_0 d1) ⊢ stg c cc0_stg1_0 (astg m c)) $$ H1
  ihave H2 := (Entails.of_eq (by rw [before_b]) : stg c cc0_stg2_0 ((dats m ρ 0 c).before (2 : Fin 4) t0_0 d2) ⊢ stg c cc0_stg2_0 (bstg m c)) $$ H2
  iapply (run_wand c (p := body) (fun _ => iprop(Φ₁ m c ∗ owing c 0 ∗ stg c cc0_stg0_0 (xstg m c) ∗ stg c cc0_stg1_0 (astg m c) ∗ stg c cc0_stg2_0 (bstg m c)
        ∗ stg c cc0_stg3_0 (outAt m c))))
  isplitl
  · iapply (body_run m K c)
    isplitl [HP]; · iexact HP
    isplitl [Hrec]; · iexact Hrec
    isplitl [HW]; · iexact HW
    isplitl [Hscr]; · iexact Hscr
    isplitl [HO]; · unfold owing; iexists W; iexact HO
    isplitl [H0]; · iexact H0
    isplitl [H1]; · iexact H1
    isplitl [H2]; · iexact H2
    iexists _; iexact H3
  unfold owing
  iintro %_ ⟨HΦ, ⟨%W', HO⟩, Hrest⟩
  isplitl [HΦ]; · iexact HΦ
  isplitl [HO]
  · iexists W'
    isplitr; · ipureintro; exact fun _ _ => Or.inl trivial
    iexact HO
  iexact Hrest

set_option maxRecDepth 65536 in
/-- What the library asks of the body on core `c`. -/
theorem obligation (c : Dev nD) : BodyObligation (dats (F := F) m ρ 0 c) (defs₀ (F := F)) 𝒱₀ () Set.univ := fun t => by
  rw [show t = t0_0 from fin_N0 t]
  rw [bigSep_W0, bigSep_W0]
  show obPre m ρ c ⊢ run c (cc0_body xM (Memref.isWhole_whole _) wA (Memref.isWhole_whole _) aM (Memref.isWhole_whole _) bM (Memref.isWhole_whole _)
      oM (Memref.isWhole_whole _) wM (Memref.isWhole_whole _) yM (Memref.isWhole_whole _) cM (Memref.isWhole_whole _)
      cc0_scratch3 cc0_scratch4 cc0_scratch5) fun _ => obPost m ρ c
  rw [body_eq]
  exact ob_run m ρ c

end Cert.Exchange

end
-- ==== Proof.Launch.lean ====
/-
The launch: the exchange's cells allocated and its tokens and credits dealt to the devices; then the run of the whole program.
-/
module

public import proofs.«01_k».proof.Proof.Body
public import Idealize.ShloMosaic.Lib.Pipeline.CollectiveSegs
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Minting -/

theorem cells_injective : Function.Injective (fun g : Dev nD × CK => cell g.1 g.2) := by
  rintro ⟨c, k⟩ ⟨c', k'⟩ h
  obtain ⟨rfl, rfl⟩ := cell_inj h
  rfl
def allCells : Finset (GSem nD τ sig) := Finset.univ.map ⟨fun g : Dev nD × CK => cell g.1 g.2, cells_injective⟩

theorem toks_injective : Function.Injective (fun x : Dev nD × Tok => tokKey x.1 x.2) := by
  rintro ⟨c, t⟩ ⟨c', t'⟩ h
  have hc : (tokKey c t).1 = (tokKey c' t').1 := congrArg (fun x => x.1) h
  have hn : (tokKey c t).2.1 = (tokKey c' t').2.1 := congrArg (fun x => x.2.1) h
  have hd : (tokKey c t).2.2 = (tokKey c' t').2.2 := congrArg (fun x => x.2.2) h
  rcases t with d | d | s | j <;> rcases t' with d' | d' | s' | j' <;> obtain ⟨h1, h2⟩ := cell_inj hc
  · subst h1; have : c = c' := hd; subst this; rfl
  · cases h2
  · cases h2
  · cases h2
  · cases h2
  · subst h1; cases h2; rfl
  · cases h2
  · cases h2
  · cases h2
  · cases h2
  · subst h1; cases h2; rfl
  · cases h2
  · cases h2
  · cases h2
  · cases h2
  · subst h1
    have h3 : j.val % 4 = j'.val % 4 := congrArg Fin.val (Sum.inl.inj (Sum.inr.inj h2))
    have h4 : j.val / 4 = j'.val / 4 := hn
    have : j = j' := Fin.ext (by omega)
    subst this; rfl
def allToks : Finset (GSem nD τ sig × ℕ × Duty) := Finset.univ.map ⟨fun x : Dev nD × Tok => tokKey x.1 x.2, toks_injective⟩

def u₀ : UU := (initOf (Pipeline.cells cfgs cellOf_inj) (Pipeline.launchToks cfgs cellOf_inj), initOf allCells allToks)

/-- What is minted for device `c`, -/
def minted (c : Dev nD) : sProp 𝕄 :=
  iprop((bigSep Finset.univ fun k : CK => roundState ER (sched m) (cell c k) 0)
    ∗ (bigSep Finset.univ fun k : CK => reached ER (cell c k) 0)
    ∗ (bigSep Finset.univ fun k : CK => atPos ER (cell c k) 0 ∅ 0) ∗ bigSep Finset.univ fun t : Tok => tok c t)
/-- and what it has once every cell's invariant is allocated. -/
def dealt (c : Dev nD) : sProp 𝕄 :=
  iprop((∃ K : Dev nD × CK → ℕ, bigSep Finset.univ fun g : Dev nD × CK => iprop(cellInv ER (sched m) (K g) (cell g.1 g.2) ∗ reached ER (cell g.1 g.2) 0))
    ∗ (bigSep Finset.univ fun k : CK => atPos ER (cell c k) 0 ∅ 0) ∗ bigSep Finset.univ fun t : Tok => tok c t)

theorem sep_over {I : Type} (S : Finset I) (Φ Ψ : I → sProp 𝕄) : bigSep S (fun i => iprop(Φ i ∗ Ψ i)) = iprop(bigSep S Φ ∗ bigSep S Ψ) := bigSep_sep' S Φ Ψ
theorem over_pairs {J : Type} [Fintype J] (Φ : Dev nD × J → sProp 𝕄) :
    bigSep Finset.univ Φ = bigSep Finset.univ fun c : Dev nD => bigSep Finset.univ fun k : J => Φ (c, k) := bigSep_univ_prod Φ

theorem mint : BI.own (ER (initOf allCells allToks)) ⊢ (|==> bigSep Finset.univ (minted m) : sProp 𝕄) := by
  have hX (Φ : GSem nD τ sig → sProp 𝕄) : bigSep allCells Φ = bigSep Finset.univ fun c : Dev nD => bigSep Finset.univ fun k : CK => Φ (cell c k) := by
    unfold allCells; rw [bigSep_map, over_pairs]; rfl
  have hT : bigSep allToks (fun x => (dutyTok ER x.1 x.2.1 x.2.2 : sProp 𝕄)) = bigSep Finset.univ fun c : Dev nD => bigSep Finset.univ fun t : Tok => tok c t := by
    unfold allToks; rw [bigSep_map, over_pairs]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold minted
  simp only [sep_over]
  isplitl [Hst]; · iexact Hst
  isplitl [Hr]; · iexact Hr
  isplitl [Hat] <;> iassumption

theorem unscoped_eq (c : Dev nD) : (unscopedSems0 c : sProp 𝕄) = semVal (cell c kBar) 0 := by
  unfold unscopedSems0; rw [bigSep_eq_bigSepL_of_eq [SemLoc.reg barS] (by decide) (by decide)]; rfl

theorem own_sems_eq (c : Dev nD) :
    Pipeline.ownSems0 (Ix := Unit) (Name := ℕ) (U := UU) (Lvl := ℕ) (Val := Elt F) (τ := τ) osem c
      = (bigSep Finset.univ fun k : Own => semVal (cell c (.inr k)) 0 : sProp 𝕄) := rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  rw [cells_eq, unscoped_eq, own_sems_eq]
  iintro ⟨HO, HB⟩
  isplitl [HB]; · iexact HB
  iexact HO

theorem alloc_cells (c : Dev nD) :
    iprop((bigSep Finset.univ fun k : CK => semVal (cell c k) 0) ∗ bigSep Finset.univ fun k : CK => roundState ER (sched m) (cell c k) 0)
      ⊢ (|={Set.univ}=> bigSep Finset.univ fun k : CK => iprop(∃ κ : ℕ, cellInv ER (sched m) κ (cell c k)) : sProp 𝕄) := by
  rw [← sep_over]
  exact (bigSep_mono fun k _ => (Rounds.body_intro ER (sched m) (cell c k)).trans inv_alloc).trans (bigSep_fupd _ _)

theorem alloc_core (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun k : CK => iprop(∃ κ : ℕ, cellInv ER (sched m) κ (cell c k)))
          ∗ (bigSep Finset.univ fun k : CK => reached ER (cell c k) 0)
          ∗ ((bigSep Finset.univ fun k : CK => atPos ER (cell c k) 0 ∅ 0) ∗ bigSep Finset.univ fun t : Tok => tok c t)) := by
  unfold minted
  iintro ⟨Hos, Hus, Hst, Hr, Hrest⟩
  ihave Hv := (sems_eq (F := F) c) $$ [Hos Hus]
  · isplitl [Hos] <;> iassumption
  imod (alloc_cells m c) $$ [Hv Hst] with Hinv
  · isplitl [Hv] <;> iassumption
  imodintro
  isplitl [Hinv]; · iexact Hinv
  isplitl [Hr]; · iexact Hr
  iexact Hrest

theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := BI.bigSep_with_persistent h

theorem deal :
    (bigSep Finset.univ fun c : Dev nD => iprop((bigSep Finset.univ fun k : CK => iprop(∃ κ : ℕ, cellInv ER (sched m) κ (cell c k)))
          ∗ (bigSep Finset.univ fun k : CK => reached ER (cell c k) 0)
          ∗ ((bigSep Finset.univ fun k : CK => atPos ER (cell c k) 0 ∅ 0) ∗ bigSep Finset.univ fun t : Tok => tok c t)) : sProp 𝕄)
      ⊢ bigSep Finset.univ (dealt m) := by
  rw [sep_over, sep_over, ← over_pairs (fun g : Dev nD × CK => iprop(∃ κ : ℕ, cellInv ER (sched m) κ (cell g.1 g.2))),
    ← over_pairs (fun g : Dev nD × CK => (reached ER (cell g.1 g.2) 0 : sProp 𝕄))]
  iintro ⟨HI, #HR, Hrest⟩
  ihave HK := (BI.bigSep_exists_pi Finset.univ (fun (g : Dev nD × CK) (κ : ℕ) => (cellInv ER (sched m) κ (cell g.1 g.2) : sProp 𝕄))) $$ HI
  icases HK with ⟨%K, #HI⟩
  iapply (share_out (R := bigSep Finset.univ fun g : Dev nD × CK => iprop(cellInv ER (sched m) (K g) (cell g.1 g.2) ∗ reached ER (cell g.1 g.2) 0))
    (Φ := fun c => iprop((bigSep Finset.univ fun k : CK => atPos ER (cell c k) 0 ∅ 0) ∗ bigSep Finset.univ fun t : Tok => tok c t)) fun c _ => by
      unfold dealt
      iintro ⟨HR, Hat⟩
      isplitl [HR]
      · iexists K; iexact HR
      iexact Hat)
  isplitr
  · rw [sep_over]
    isplitl; · iexact HI
    iexact HR
  iexact Hrest

theorem allocate : (bigSep Finset.univ fun c => iprop(Pipeline.ownSems0 (Ix := Unit) (Name := ℕ) (U := UU) (Lvl := ℕ) (Val := Elt F) (τ := τ) osem c ∗ unscopedSems0 c ∗ minted m c) : sProp 𝕄)
    ⊢ |={Set.univ}=> bigSep Finset.univ (dealt m) :=
  ((bigSep_mono fun c _ => alloc_core m c).trans (bigSep_fupd _ _)).trans (BI.fupd_mono (deal m))

/-! ## Credits -/

theorem reach_once : ∀ d c : Dev nD, (∑ s ∈ Finset.Ico 1 16, if c = rot d s then 1 else 0) = if d = c then 0 else 1 := by decide +kernel
theorem reach (d c : Dev nD) (n : ℕ) : (∑ s ∈ Finset.Ico 1 16, if c = rot d s then n else 0) = if d = c then 0 else n := by
  have h := congrArg (n * ·) (reach_once d c)
  simp only [Finset.mul_sum, mul_ite, mul_one, mul_zero] at h
  exact h

theorem sends_at (d : Dev nD) (g : GSem nD τ sig) : owedSends d 1 g () = ∑ s ∈ Finset.Ico 1 16, if g = cell (rot d s) (kRecv d) then NX else 0 := by
  unfold owedSends
  rw [Finset.sum_apply, Finsupp.finset_sum_apply]
  refine Finset.sum_congr rfl fun s _ => ?_
  rw [tallyAt_apply]; simp only [and_true]
theorem signals_at (d : Dev nD) (g : GSem nD τ sig) : owedSignals d 1 g () = ∑ s ∈ Finset.Ico 1 16, if g = cell (rot d s) kBar then 1 else 0 := by
  unfold owedSignals
  rw [Finset.sum_apply, Finsupp.finset_sum_apply]
  refine Finset.sum_congr rfl fun s _ => ?_
  rw [tallyAt_apply]; simp only [and_true]

theorem bar_ne_recv (i : Dev nD) : kBar ≠ kRecv i := by intro h; cases h

theorem owed_bar (d c : Dev nD) : O₀ d (cell c kBar) () = if d = c then 0 else 1 := by
  unfold O₀
  rw [Pi.add_apply, Finsupp.add_apply, sends_at, signals_at, ← reach,
    Finset.sum_eq_zero (f := fun s => if cell c kBar = cell (rot d s) (kRecv d) then NX else 0)
      (fun s _ => if_neg fun h => bar_ne_recv d (cell_inj h).2), Nat.zero_add]
  refine Finset.sum_congr rfl fun s _ => if_congr ⟨fun h => (cell_inj h).1, fun h => by rw [h]⟩ rfl rfl
theorem owed_recv (d c i : Dev nD) : O₀ d (cell c (kRecv i)) () = if d = i then (if d = c then 0 else NX) else 0 := by
  unfold O₀
  rw [Pi.add_apply, Finsupp.add_apply, sends_at, signals_at,
    Finset.sum_eq_zero (f := fun s => if cell c (kRecv i) = cell (rot d s) kBar then 1 else 0) (fun s _ => if_neg fun h => bar_ne_recv i (cell_inj h).2.symm), Nat.add_zero]
  by_cases h : d = i
  · subst h
    rw [if_pos rfl, ← reach]
    exact Finset.sum_congr rfl fun s _ => if_congr ⟨fun h => (cell_inj h).1, fun h => by rw [h]⟩ rfl rfl
  · rw [if_neg h]
    exact Finset.sum_eq_zero fun s _ => if_neg fun h' => h (by have := (cell_inj h').2; cases this; rfl)

theorem count_others : ∀ c : Dev nD, (∑ d : Dev nD, if d = c then 0 else 1) = 15 := by decide

theorem credit_bar (c : Dev nD) :
    tallyOn (cell c kBar) (launchCredit (Pipeline.owing O₀) 0 (cell c kBar)) = (tallyAt (cell c kBar) () 15 : CellTallies nD τ sig Unit) := by
  unfold tallyAt; refine congrArg _ (Finsupp.ext fun u => ?_); cases u
  rw [Pipeline.launchCredit_owing, Finsupp.single_eq_same, Finset.sum_congr rfl fun d _ => owed_bar d c, count_others]
theorem credit_recv (c i : Dev nD) (h : i ≠ c) :
    tallyOn (cell c (kRecv i)) (launchCredit (Pipeline.owing O₀) 0 (cell c (kRecv i))) = (tallyAt (cell c (kRecv i)) () NX : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ i fun d => if d = c then 0 else NX, if_pos (Finset.mem_univ _), if_neg h]

def recvOf : Fin 16 ↪ SemLoc sig := ⟨fun i => csem (kRecv i), fun i j h => Sum.inr.inj (Sum.inr.inj (Sum.inr.inj (csem_injective h)))⟩

theorem credits (c : Dev nD) :
    (Pipeline.launchCred O₀ c : sProp 𝕄)
      ⊢ iprop(cred (tallyAt (cell c kBar) () 15) ∗ bigSep (Finset.univ.erase c) fun i => cred (tallyAt (cell c (kRecv i)) () NX)) := by
  unfold Pipeline.launchCred
  rw [bigSep_univ_at _ (csem kBar), show tallyOn ((c : Thread nD τ), csem kBar) (launchCredit (Pipeline.owing O₀) 0 ((c : Thread nD τ), csem kBar))
    = (tallyAt (cell c kBar) () 15 : CellTallies nD τ sig Unit) from credit_bar c]
  refine sep_mono_right ?_
  have h : (Finset.univ.erase c).map recvOf ⊆ Finset.univ.erase (csem kBar) := fun x hx => by
    obtain ⟨i, -, hi⟩ := Finset.mem_map.mp hx
    have hi : csem (kRecv i) = x := hi
    exact Finset.mem_erase.mpr ⟨fun h => bar_ne_recv i (csem_injective (hi.trans h)).symm, Finset.mem_univ x⟩
  have h' : (bigSep (Finset.univ.erase (csem kBar)) (fun sm => cred (tallyOn ((c : Thread nD τ), sm) (launchCredit (Pipeline.owing O₀) 0 ((c : Thread nD τ), sm)))) : sProp 𝕄)
      ⊢ bigSep ((Finset.univ.erase c).map recvOf) fun sm => cred (tallyOn ((c : Thread nD τ), sm) (launchCredit (Pipeline.owing O₀) 0 ((c : Thread nD τ), sm))) := bigSep_subset h
  refine h'.trans (BIBase.Entails.of_eq ?_)
  rw [bigSep_map]
  refine bigSep_congr fun i hi => ?_
  rw [← credit_recv c i (Finset.ne_of_mem_erase hi)]
  rfl

/-! ## The run -/

/-- What device `c` enters the call with, -/
def entry (c : Dev nD) : sProp 𝕄 := iprop((∃ K, known m K) ∗ records c ∗ wWhole m c)
/-- and what it keeps after it. -/
def leave (c : Dev nD) : sProp 𝕄 := iprop(wWhole m c ∗ unscopedSems0 c)

theorem entry_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(entry m c ∗ emp) := by
  rw [Pipeline.unscopedRestP_none, unscopedRest0_eq]
  iintro ⟨Hw, Hlev, Hcr, -, HG⟩
  ihave Hc := (credits (F := F) c) $$ Hcr
  icases Hc with ⟨H1, HN⟩
  imodintro
  unfold entry dealt records wWhole known levels
  icases HG with ⟨⟨%K, HK⟩, Hat, Htok⟩
  isplitl
  · isplitl [HK Hlev]
    · iexists K
      isplitl [HK]; · iexact HK
      iexact Hlev
    isplitr [Hw]
    · isplitl [Hat]; · iexact Hat
      isplitl [Htok]; · iexact Htok
      isplitl [H1] <;> iassumption
    iapply (Entails.of_eq (owns_whole (c : Thread nD τ) main_arg1 fullShare (m ((c : Thread nD τ).loc main_arg1))).symm); iexact Hw
  · iempintro

theorem call_begin (c : Dev nD) :
    iprop(entry m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq, any_whole, any_whole, any_whole]
  unfold Φ₀ scratch entry
  iintro ⟨⟨HK, Hr, Hw⟩, -, Hs⟩
  isplitl [HK]; · iexact HK
  isplitl [Hr]; · iexact Hr
  isplitl [Hw] <;> iassumption

theorem call_end (c : Dev nD) :
    (dats m ρ 0 c).Φ (Fin.last cfg0.N) ⊢ iprop(leave m c ∗ Pipeline.ownSems0 osem c ∗ Pipeline.scopedRest cfg0.spec c) := by
  rw [show (dats m ρ 0 c).Φ (Fin.last cfg0.N) = Φ₁ m c from rfl, scopedRest0_eq, any_whole, any_whole, any_whole]
  unfold Φ₁ scratch leave
  rw [unscoped_eq, own_sems_eq]
  iintro ⟨Hw, HB, HO, Hs⟩
  isplitl [Hw HB]
  · isplitl [Hw] <;> iassumption
  isplitl [HO]; · iexact HO
  iexact Hs

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem shares (c : Dev nD) (w : Fin cfg0.W) : (dats m ρ 0 c).share w = fullShare := by unfold Dat.share; split <;> rfl

def finalA (c : Dev nD) (w : Fin cfg0.W) : Buf (Elt F) ((cfg0.win w).arr.view.loc (c : Thread nD τ)) := (dats m ρ 0 c).arrAt w cfg0.N

/-- The state at the end of a run. -/
def ended (s : MemSt nD τ sig (Elt F)) : Prop :=
  (∀ c : Dev nD, (∀ w : Fin cfg0.W, s.mem ((cfg0.win w).arr.view.loc (c : Thread nD τ)) = finalA m ρ c w)
    ∧ s.mem ((c : Thread nD τ).loc main_arg1) = m ((c : Thread nD τ).loc main_arg1)) ∧ s.sem = fun _ => 0

set_option maxRecDepth 8000 in
/-- Every run of the sixteen devices ends, with the results computed, the arguments as they were and every semaphore at zero. -/
theorem run_main : θ_run defs (onTc (τ := τ) (main (F := F))) (s₀ m ρ) (fun r => ended m ρ r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := block_pos0) (harr := arr_whole0) (hstage := stage_whole0) (hshare := shares m ρ)
    (hdistinct := winFacts0.arr_inj)
    (O₀ := O₀) (howed₀ := fun _ => rfl) (howedN := fun _ => rfl)
    (L := L) (lv := lv) (hL := L_of_ne) (hwaits := stage_waits m ρ)
    (G := minted m) (G' := dealt m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := allocate m)
    (hA := fun _ _ => rfl) (hpf := fun _ k => k.elim0)
    (X := entry m) (Y := leave m) (Z := fun _ => iprop(emp))
    (hX := entry_intro m ρ) (hin := call_begin m ρ) (hout := call_end m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold leave wWhole
      iintro ⟨⟨Hw, Hu⟩, -, HSI⟩
      ihave Hw := (Entails.of_eq (owns_whole (c : Thread nD τ) main_arg1 fullShare (m ((c : Thread nD τ).loc main_arg1)))) $$ Hw
      icombine HSI Hw gives %hw
      imod (Pipeline.unscopedSems0_read (X := unscopedSems0 c) (c := c) fupd_intro s') $$ [Hu HSI] with ⟨%hz, HSI⟩
      · isplitl [Hu] <;> iassumption
      imodintro
      isplitr; · ipureintro; exact ⟨Buf.eq_of_forall_mem_univ hw, hz⟩
      iexact HSI)
    (hQ := fun _ h hs => ⟨fun c => ⟨fun w => (h c).1 w, (h c).2.2.1⟩, sem_eq_zero hs fun c => (h c).2.2.2⟩)

theorem final_x (c : Dev nD) : finalA m ρ c (0 : Fin 4) = m (win0_0.arr.view.loc (c : Thread nD τ)) := (dats (F := F) m ρ 0 c).arrAt_in (0 : Fin 4) rfl _
theorem final_a (c : Dev nD) : finalA m ρ c (1 : Fin 4) = m (win0_1.arr.view.loc (c : Thread nD τ)) := (dats (F := F) m ρ 0 c).arrAt_in (1 : Fin 4) rfl _
theorem final_b (c : Dev nD) : finalA m ρ c (2 : Fin 4) = m (win0_2.arr.view.loc (c : Thread nD τ)) := (dats (F := F) m ρ 0 c).arrAt_in (2 : Fin 4) rfl _

/-- The arguments and the semaphores after a run, as the claims say it. -/
theorem frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨((h.1 c).1 0).trans (final_x m ρ c), (h.1 c).2, ((h.1 c).1 1).trans (final_a m ρ c), ((h.1 c).1 2).trans (final_b m ρ c)⟩, h.2⟩)
    (run_main m ρ)

end Cert.Exchange

end
-- ==== Proof.Same.lean ====
/-
The kernel as printed and the kernel read over the extended reals are one text: their tables of bodies and their
@main are the same.
-/
module

public import proofs.«01_k».proof.Proof.Gen.Kernel
public import proofs.«01_k».proof.Proof.Gen.KernelIdeal

@[expose] public section

noncomputable section

namespace Cert.Exchange

open Idealize.ShloMosaic Idealize.SL.Sem

variable {F : FTy → Type} [FloatOps F]

set_option maxRecDepth 100000 in
theorem body_same : @Cert.Kernel.cc0_body F _ Cert.Kernel.Gen.facts = @Cert.KernelIdeal.cc0_body F _ Cert.KernelIdeal.Gen.facts := rfl

theorem bodies_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun a => ?_)
  match l, a with
  | 0, (t, s) => dsimp only; rw [body_same]

theorem defs_same : @Cert.Kernel.defs F _ Cert.Kernel.Gen.facts = @Cert.KernelIdeal.defs F _ Cert.KernelIdeal.Gen.facts := by
  unfold Cert.Kernel.defs Cert.KernelIdeal.defs
  rw [bodies_same]; rfl

end Cert.Exchange

end
-- ==== Proof.Products.lean ====
/-
Products of two matrices of 8-bit integers: the sum of an element's products, the sum of their magnitudes, and what the
chip's product, the host's product of the converted matrices, and the stated bound are in terms of these two sums.
-/
module

public import Idealize.ShloMosaic.Lib.StackMember
public import Idealize.ShloMosaic.Lib.ValueIdx
public import Idealize.ShloMosaic.Lib.IntMxu
public import Idealize.ShloMosaic.PureOps.Ideal

@[expose] public section

noncomputable section

open scoped BigOperators

namespace Cert.Exchange.Products

open Idealize.ShloMosaic Idealize.ShloMosaic.ValueIdx Idealize.ShloMosaic.StackMember

variable {m k n : ℕ}

/-! ## The two sums of an element -/

section Sums
variable (l : IVec ⟨2, ![m, k]⟩ 8) (r : IVec ⟨2, ![k, n]⟩ 8) (a : Fin m) (b : Fin n)

/-- The element at row `a` and column `b` of the product, over the integers. -/
def total : ℤ := ∑ q : Fin k, (l (ix2 a q)).toInt * (r (ix2 q b)).toInt
/-- The sum of the magnitudes of the products which that element sums. -/
def magnitude : ℕ := ∑ q : Fin k, ((l (ix2 a q)).toInt * (r (ix2 q b)).toInt).natAbs

/-- Sum position `q` of a plain product reads row `a` of the left matrix at `q`, -/
theorem left_index (q : Fin k) :
    (DotDims.plain m k n).lhsIdx (ix2 a b) ((contrEquiv1 (DotDims.plain m k n) k rfl rfl).symm q) = ix2 a q := by
  have hq := contrEquiv1_symm_val (DotDims.plain m k n) k rfl rfl q
  refine funext fun d => Fin.ext ?_
  match d with
  | ⟨0, _⟩ => simp [DotDims.lhsIdx, DotDims.plain]; rfl
  | ⟨1, _⟩ => simp [DotDims.lhsIdx, DotDims.plain]; exact hq
/-- and column `b` of the right one. -/
theorem right_index (q : Fin k) :
    (DotDims.plain m k n).rhsIdx (ix2 a b) ((contrEquiv1 (DotDims.plain m k n) k rfl rfl).symm q) = ix2 q b := by
  have hq := contrEquiv1_symm_val (DotDims.plain m k n) k rfl rfl q
  refine funext fun d => Fin.ext ?_
  match d with
  | ⟨0, _⟩ => simp [DotDims.rhsIdx, DotDims.plain]; exact hq
  | ⟨1, _⟩ => simp [DotDims.rhsIdx, DotDims.plain]; rfl

theorem dotI8_eq_total : dotI8 (DotDims.plain m k n) l r (ix2 a b) = total l r a b := by
  unfold dotI8 total
  rw [← Equiv.sum_comp (contrEquiv1 (DotDims.plain m k n) k rfl rfl).symm]
  exact Finset.sum_congr rfl fun q _ => by rw [left_index, right_index]
theorem absDotI8_eq_magnitude : absDotI8 (DotDims.plain m k n) l r (ix2 a b) = magnitude l r a b := by
  unfold absDotI8 magnitude
  rw [← Equiv.sum_comp (contrEquiv1 (DotDims.plain m k n) k rfl rfl).symm]
  exact Finset.sum_congr rfl fun q _ => by rw [left_index, right_index]

/-- THE CHIP'S PRODUCT, while the magnitudes total less than 2 ^ 24, is the integer one. -/
theorem chip_total (h : magnitude l r a b < 2 ^ 24) :
    (matmulI8 IntMxuNumerics.v7x (DotDims.plain m k n) l r (constantI ⟨2, ![m, n]⟩ 32 0#32) (ix2 a b)).toInt
      = total l r a b := by
  rw [← dotI8_eq_total]
  refine matmulI8_toInt _ _ _ _ _ _ rfl ?_ (by decide)
  rw [absDotI8_eq_magnitude]
  exact Nat.le_of_lt_succ h

end Sums

/-! ## On the extended reals -/

theorem real_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- An 8-bit integer widened and converted is that integer. -/
theorem converted {s : Shape} (x : IVec s 8) (h : 8 < 32) (i : s.Idx) :
    (sitofp .f32 (extsi 32 x h) : FVec Ideal s .f32) i = (((x i).toInt : ℝ) : EReal) := by
  show ((((x i).signExtend 32).toInt : ℝ) : EReal) = _
  rw [BitVec.toInt_signExtend_of_le (by decide)]

/-- Its absolute value is its magnitude. -/
theorem converted_abs {s : Shape} (x : IVec s 8) (h : 8 < 32) (i : s.Idx) :
    (Host.absf (sitofp .f32 (extsi 32 x h) : FVec Ideal s .f32)) i = (((x i).toInt.natAbs : ℝ) : EReal) := by
  show max ((sitofp .f32 (extsi 32 x h) : FVec Ideal s .f32) i) (-((sitofp .f32 (extsi 32 x h) : FVec Ideal s .f32) i)) = _
  rw [converted, ← EReal.coe_neg, ← EReal.coe_strictMono.monotone.map_max, Nat.cast_natAbs, Int.cast_abs]
  rfl

section Host
variable (l : IVec ⟨2, ![m, k]⟩ 8) (r : IVec ⟨2, ![k, n]⟩ 8) (h h' : 8 < 32) (a : Fin m) (b : Fin n)

/-- THE HOST'S PRODUCT of the converted matrices is the integer one. -/
theorem host_total :
    Host.dotGeneral (DotDims.plain m k n) none (sitofp .f32 (extsi 32 l h) : FVec Ideal _ .f32) (sitofp .f32 (extsi 32 r h')) (ix2 a b)
      = ((total l r a b : ℝ) : EReal) := by
  rw [dotGeneral_plain_apply, total, Int.cast_sum, real_sum]
  exact Finset.sum_congr rfl fun q _ => by rw [converted, converted, ← EReal.coe_mul, Int.cast_mul]

/-- The host's product of their absolute values is the sum of the magnitudes. -/
theorem host_magnitude :
    Host.dotGeneral (DotDims.plain m k n) none (Host.absf (sitofp .f32 (extsi 32 l h) : FVec Ideal _ .f32))
        (Host.absf (sitofp .f32 (extsi 32 r h'))) (ix2 a b)
      = ((magnitude l r a b : ℝ) : EReal) := by
  rw [dotGeneral_plain_apply, magnitude, Nat.cast_sum, real_sum]
  exact Finset.sum_congr rfl fun q _ => by
    rw [converted_abs, converted_abs, ← EReal.coe_mul, Int.natAbs_mul, Nat.cast_mul]

end Host

/-- The bound, as the number its word stands for. -/
theorem bound_word : Ideal.ofBits .f32 0x4B800000#32 = ((2 ^ 24 : ℕ) : ℝ) := by
  simp [Ideal.ofBits, Ideal.ieee, -EReal.coe_mul]; norm_num

/-- A magnitude compared below that word is below 2 ^ 24. -/
theorem below_bound {s : ℕ} (h : FloatOps.cmpf (F := Ideal) (φ := .f32) .olt ((s : ℝ) : EReal) (Ideal.ofBits .f32 0x4B800000#32) = 1#1) :
    s < 2 ^ 24 := by
  rw [bound_word] at h
  have h' : BitVec.ofBool (decide (((s : ℝ) : EReal) < (((2 ^ 24 : ℕ) : ℝ) : EReal))) = 1#1 := h
  by_contra hs
  rw [decide_eq_false (by rw [EReal.coe_lt_coe_iff, Nat.cast_lt]; exact hs)] at h'
  exact absurd h' (by decide)

end Cert.Exchange.Products

end
-- ==== Proof.Values.lean ====
/-
What the devices' results hold, over the extended reals, where the magnitudes summed stay below the bound.

Row `a` and column `b` of the block that device `i` computes for device `c` is the sum, over the contracted coordinate, of
the products of row `a` of `i`'s rows of `x` by column `512 c + b` of `w_mat`, times the product of the two scales. A remote
copy carries it as bf16 and the receiver widens it again, which over the extended reals leaves it as it is. Stacked, the
sixteen blocks that device `c` ends with are its columns of the reference's result.
-/
module

public import proofs.«01_k».proof.Proof.Launch
public import proofs.«01_k».proof.Proof.Products
public import proofs.«01_k».proof.Pre_sums_below_2_24_KernelIdeal
public import proofs.«01_k».proof.Proof.Gen.ReferenceIdeal
public import Idealize.ShloMosaic.Lib.Layout
public import Idealize.ShloMosaic.Lib.Pipeline.Value

@[expose] public section

noncomputable section

namespace Cert.Exchange

open Cert.KernelIdeal Cert.KernelIdeal.Gen
open Idealize.ShloMosaic Idealize.ShloMosaic.TcCoe Idealize.ShloMosaic.ValueIdx
open Idealize.SL.Sem
open Idealize.ShloMosaic.Pipeline (Dat)
open Products

/-! ## The arrays and the windows -/

/-- An array of one element has one index. -/
theorem only_index (j : (⟨1, ![1]⟩ : Shape).Idx) : j = ix1 0 :=
  funext fun d => match d with | ⟨0, _⟩ => Fin.ext (Nat.lt_one_iff.mp (j 0).isLt)

section AnyValues
variable {F : FTy → Type} [FloatOps F] (m : (ℓ : Loc nD τ sig) → Buf (Elt F) ℓ) (ρ : Dev nD → PrngReg)

/-- The result array ends as the body left its window's buffer: the one grid point flushes one block, the whole array. -/
theorem final_out (c : Dev nD) : finalA m ρ c (3 : Fin 4) = outAt m c := by
  have h : (win0_3.blk (0 : Fin 1)).view.read (Elt F) (finalA m ρ c (3 : Fin 4)) = (dats m ρ 0 c).flushed (3 : Fin 4) (0 : Fin 1) := by
    unfold finalA
    rw [show cfg0.N = ((0 : Fin 1) : Fin cfg0.N).val + 1 from rfl, (dats m ρ 0 c).arrAt_succ (3 : Fin 4) (0 : Fin 1), if_pos (by decide)]
    exact View.read_write_univ _ _
  have hz : (fun a => win0_3.index (0 : Fin 1) a * main_v1.ty.shape.size a) = fun _ => 0 := funext fun a => by fin_cases a <;> decide
  rw [show (win0_3.blk (0 : Fin 1)).view.read (Elt F) (finalA m ρ c (3 : Fin 4)) = finalA m ρ c (3 : Fin 4) from
    Memref.read_access_unit_zero (Elt F) main_v1 hz (fun a => by fin_cases a <;> decide) _] at h
  exact h

/-- The body reads device `c`'s rows of `x` as the launch found them, -/
theorem xval_eq (c : Dev nD) : xval m c = m ((c : Thread nD τ).loc main_arg0) := by
  have hz : (fun a => win0_0.index (0 : Fin 1) a * main_arg0.ty.shape.size a) = fun _ => 0 := funext fun a => by fin_cases a <;> decide
  have h : xval m c = xstg m c := funext fun i => congrArg (xstg m c) (Shape.reshapeEquiv_self _ i)
  rw [h]
  exact Memref.read_access_unit_zero (Elt F) main_arg0 hz (fun a => by fin_cases a <;> decide) _

/-- and the two scales. -/
theorem scale_eq (c : Dev nD) :
    scale m c = Scalar.mulf (m ((c : Thread nD τ).loc main_arg2) (ix1 0)) (m ((c : Thread nD τ).loc main_arg3) (ix1 0)) := by
  have hza : (fun a => win0_1.index (0 : Fin 1) a * main_arg2.ty.shape.size a) = fun _ => 0 := funext fun a => by fin_cases a <;> decide
  have hzb : (fun a => win0_2.index (0 : Fin 1) a * main_arg3.ty.shape.size a) = fun _ => 0 := funext fun a => by fin_cases a <;> decide
  have ha : astg m c = m ((c : Thread nD τ).loc main_arg2) := Memref.read_access_unit_zero (Elt F) main_arg2 hza (fun a => by fin_cases a <;> decide) _
  have hb : bstg m c = m ((c : Thread nD τ).loc main_arg3) := Memref.read_access_unit_zero (Elt F) main_arg3 hzb (fun a => by fin_cases a <;> decide) _
  unfold scale k0_pay1
  rw [ha, hb]
  show Scalar.mulf (m ((c : Thread nD τ).loc main_arg2) _) (m ((c : Thread nD τ).loc main_arg3) _) = _
  rw [only_index ((aM.access r1).emb _), only_index ((bM.access r1).emb _)]

/-- Column `b` of the `t`-th block of columns of `w_mat`. -/
def col (t : Fin 16) (b : Fin 512) : Fin 8192 := ⟨512 * t.val + b.val, by have := t.isLt; have := b.isLt; omega⟩

theorem wcol_apply (c t : Dev nD) (q : Fin 4096) (b : Fin 512) :
    wcol m c t (ix2 q b) = m ((c : Thread nD τ).loc main_arg1) (ix2 q (col t b)) := by
  show m ((c : Thread nD τ).loc main_arg1) ((blkR t).emb (ix2 q b)) = _
  refine congrArg _ (funext fun a => Fin.ext ?_)
  match a with
  | ⟨0, _⟩ => show 0 + 1 * q.val = q.val; omega
  | ⟨1, _⟩ => show 512 * t.val + 1 * b.val = 512 * t.val + b.val; omega

/-- A slot of the ring of copies, read as a matrix, is the block of columns copied in. -/
theorem wblk_cast (c t : Dev nD) : shapeCast S4096x512 (wblk m c t) shapeCasts_S1x4096x512_S4096x512 = wcol m c t := by
  funext i
  show wcol m c t ((Shape.reshapeEquiv _).symm (Shape.reshapeEquiv _ i)) = _
  rw [Equiv.symm_apply_apply]

end AnyValues

/-! ## A block -/

variable (m : (ℓ : Loc nD τ sig) → Buf (Elt Ideal) ℓ)

/-- The block that device `i` computes for device `c`, before it is scaled. -/
def blockTotal (i c : Dev nD) (a : Fin 256) (b : Fin 512) : ℤ :=
  total (m ((i : Thread nD τ).loc main_arg0) : IVec S256x4096 8) (m ((i : Thread nD τ).loc main_arg1) : IVec S4096x8192 8) a (col c b)

theorem wcol_total (x : IVec S256x4096 8) (i c : Dev nD) (a : Fin 256) (b : Fin 512) :
    total x (wcol m i c) a b = total x (m ((i : Thread nD τ).loc main_arg1) : IVec S4096x8192 8) a (col c b) :=
  Finset.sum_congr rfl fun q _ => by rw [wcol_apply]
theorem wcol_magnitude (x : IVec S256x4096 8) (i c : Dev nD) (a : Fin 256) (b : Fin 512) :
    magnitude x (wcol m i c) a b = magnitude x (m ((i : Thread nD τ).loc main_arg1) : IVec S4096x8192 8) a (col c b) :=
  Finset.sum_congr rfl fun q _ => by rw [wcol_apply]

/-- Every element of every device's product has magnitudes below the bound. -/
def Small : Prop := ∀ (i : Dev nD) (a : Fin 256) (b : Fin 8192),
  magnitude (m ((i : Thread nD τ).loc main_arg0) : IVec S256x4096 8) (m ((i : Thread nD τ).loc main_arg1) : IVec S4096x8192 8) a b < 2 ^ 24

variable {m}

/-- The block as it is computed and stored. -/
theorem computed (hs : Small m) (i c : Dev nD) (a : Fin 256) (b : Fin 512) :
    k0_pay3 (F := Ideal) (scale m i) (xval m i) (wblk m i c) (ix2 a b) = ((blockTotal m i c a b : ℝ) : EReal) * scale m i := by
  have h := chip_total (xval m i) (wcol m i c) a b (by rw [wcol_magnitude, xval_eq]; exact hs i a (col c b))
  rw [wcol_total, xval_eq] at h
  unfold k0_pay3
  rw [wblk_cast, xval_eq]
  exact congrArg (fun z : ℤ => ((z : ℝ) : EReal) * scale m i) h

/-- What a remote copy carries is the same block: to bf16 and back changes nothing here. -/
theorem carried (i c : Dev nD) (j : S256x512.Idx) :
    k0_pay23 (F := Ideal) (tile m i c) j = k0_pay3 (F := Ideal) (scale m i) (xval m i) (wblk m i c) j := by
  show k0_pay3 (F := Ideal) (scale m i) (xval m i) (wblk m i c) (Shape.reshapeEquiv _ (Shape.reshapeEquiv _ j)) = _
  rw [Shape.reshapeEquiv_reshapeEquiv, Shape.reshapeEquiv_self]

/-- The `i`-th block of rows of device `c`'s result, whether computed there or arrived. -/
theorem orow_value (hs : Small m) (c i : Dev nD) (a : Fin 256) (b : Fin 512) :
    orow m c i (ix2 a b) = ((blockTotal m i c a b : ℝ) : EReal) * scale m i := by
  unfold orow
  split
  · rename_i h; subst h; exact computed hs i i a b
  · exact (carried i c _).trans (computed hs i c a b)

/-! ## The whole result -/

/-- The stated precondition bounds every device's magnitudes. -/
theorem small_of_pre [Cert.Pre_sums_below_2_24_KernelIdeal.Facts]
    (h : ∀ c : Dev nD, Cert.Pre_sums_below_2_24_KernelIdeal.fn (F := Ideal) (m ((c : Thread nD τ).loc main_arg0))
      (m ((c : Thread nD τ).loc main_arg1)) (m ((c : Thread nD τ).loc main_arg2)) (m ((c : Thread nD τ).loc main_arg3)) = fun _ => 1#1) :
    Small m := fun i a b => by
  refine below_bound ?_
  rw [← host_magnitude _ _ Cert.Pre_sums_below_2_24_KernelIdeal.Facts.natLt_8_32 Cert.Pre_sums_below_2_24_KernelIdeal.Facts.natLt_8_32]
  exact congrFun (h i) (ix2 a b)

/-- The reference's result, of whole arrays. -/
def whole (X : IVec ⟨2, ![4096, 4096]⟩ 8) (W : IVec ⟨2, ![4096, 8192]⟩ 8) (A B : FVec Ideal ⟨1, ![1]⟩ .f32) : FVec Ideal ⟨2, ![4096, 8192]⟩ .f32 :=
  mulf (Host.dotGeneral Cert.ReferenceIdeal.dot_S4096x4096_S4096x8192_S4096x8192_1_0_0_1_n_n none
      (sitofp .f32 (extsi 32 X Cert.ReferenceIdeal.Gen.natLt_8_32)) (sitofp .f32 (extsi 32 W Cert.ReferenceIdeal.Gen.natLt_8_32)))
    (broadcastInDim Cert.ReferenceIdeal.S4096x8192 ![0, 1] Cert.ReferenceIdeal.Gen.bcast_S1x1_S4096x8192_0_1
      (broadcastInDim Cert.ReferenceIdeal.S1x1 ![1] Cert.ReferenceIdeal.Gen.bcast_S1_S1x1_1 (mulf A B)))

theorem whole_apply (X : IVec ⟨2, ![4096, 4096]⟩ 8) (W : IVec ⟨2, ![4096, 8192]⟩ 8) (A B : FVec Ideal ⟨1, ![1]⟩ .f32)
    (p : Fin 4096) (q : Fin 8192) :
    whole X W A B (ix2 p q) = ((total X W p q : ℝ) : EReal) * (A (ix1 0) * B (ix1 0)) := by
  have hd : Cert.ReferenceIdeal.dot_S4096x4096_S4096x8192_S4096x8192_1_0_0_1_n_n = DotDims.plain 4096 4096 8192 := rfl
  unfold whole
  rw [mulf_apply, hd, host_total]
  exact congrArg (fun z : EReal => ((total X W p q : ℝ) : EReal) * z) (congrArg (mulf A B) (only_index _))

/-- DEVICE `c`'S RESULT is its block of columns of the reference's. -/
theorem out_value (hs : Small m) (c : Dev nD) (X : IVec ⟨2, ![4096, 4096]⟩ 8) (W : IVec ⟨2, ![4096, 8192]⟩ 8) (A B : FVec Ideal ⟨1, ![1]⟩ .f32)
    (hX : ∀ i : Dev nD, m ((i : Thread nD τ).loc main_arg0) = Layout.block ⟨2, ![256, 4096]⟩ ⟨2, ![4096, 4096]⟩ 0 16 i X)
    (hW : ∀ i : Dev nD, m ((i : Thread nD τ).loc main_arg1) = W)
    (hA : ∀ i : Dev nD, m ((i : Thread nD τ).loc main_arg2) = A) (hB : ∀ i : Dev nD, m ((i : Thread nD τ).loc main_arg3) = B) :
    outAt m c = Layout.block ⟨2, ![4096, 512]⟩ ⟨2, ![4096, 8192]⟩ 1 16 c (whole X W A B) := by
  funext j
  obtain ⟨p, b, rfl⟩ : ∃ (p : Fin 4096) (b : Fin 512), j = ix2 p b := ⟨j 0, j 1, eq_ix2 j⟩
  have hp : p.val < 256 * 16 := p.isLt
  let i : Dev nD := ⟨p.val / 256, Nat.div_lt_of_lt_mul hp⟩
  let a : Fin 256 := ⟨p.val % 256, Nat.mod_lt _ (by decide)⟩
  have hj : (rowR i).emb (ix2 a b) = ix2 p b := funext fun d => Fin.ext (by
    match d with
    | ⟨0, _⟩ => show 256 * (p.val / 256) + 1 * (p.val % 256) = p.val; omega
    | ⟨1, _⟩ => show 0 + 1 * b.val = b.val; omega)
  have hl : outAt m c (ix2 p b) = orow m c i (ix2 a b) := (congrArg (outAt m c) hj.symm).trans (outAt_rows m c i _)
  have hr : Layout.block ⟨2, ![4096, 512]⟩ ⟨2, ![4096, 8192]⟩ 1 16 c (whole X W A B) (by decide) (ix2 p b) = whole X W A B (ix2 p (col c b)) := by
    refine congrArg (whole X W A B) (funext fun d => Fin.ext ?_)
    match d with
    | ⟨0, _⟩ => rfl
    | ⟨1, _⟩ => show c.val * 512 + b.val = 512 * c.val + b.val; omega
  rw [hl, hr, orow_value hs, whole_apply, scale_eq, hA, hB]
  refine congrArg (fun z : ℤ => ((z : ℝ) : EReal) * (A (ix1 0) * B (ix1 0))) ?_
  unfold blockTotal
  rw [hX, hW]
  refine Finset.sum_congr rfl fun q _ => congrArg (fun z : BitVec 8 => z.toInt * _) (congrArg X (funext fun d => Fin.ext ?_))
  match d with
  | ⟨0, _⟩ => show p.val / 256 * 256 + p.val % 256 = p.val; omega
  | ⟨1, _⟩ => rfl

end Cert.Exchange

end
-- ==== Proof.lean ====
/-
The claims of this certificate: the frames of the printed kernel, of its ideal reading and of the reference; that the ideal
reading is the printed kernel; and that, where the magnitudes which each element sums stay below 2 ^ 24, every device ends
with its columns of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Values
public import Idealize.ShloMosaic.Adequacy
public import Idealize.ShloMosaic.Init

@[expose] public section

noncomputable section

namespace Cert.Proof

open Idealize.ShloMosaic Idealize.SL.Sem Cert.Kernel

/-- The kernel as printed: it ends, with its arguments as they were and every semaphore at zero. -/
theorem frame_kernel : Cert.quiescent_Kernel (hKernel := Cert.Kernel.Gen.facts) := fun m ρ _ => by
  rw [Cert.Exchange.defs_same]
  exact Cert.Exchange.frame (F := Bits) m ρ

/-- The same of the kernel over the extended reals. -/
theorem frame_kernelIdeal : Cert.quiescent_KernelIdeal := fun m ρ _ => Cert.Exchange.frame (F := Ideal) m ρ

/-- The reference ends with its arguments as they were; it has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The bound's side conditions, at one device's rows of `x` -/
theorem bound_facts : Cert.Pre_sums_below_2_24_KernelIdeal.Facts := ⟨by decide, by decide, by decide⟩
/-- and at the whole of it. -/
theorem bound_facts_whole : Cert.Pre_sums_below_2_24_ReferenceIdeal.Facts := ⟨by decide, by decide, by decide⟩

open Cert.Exchange in
/-- Where the magnitudes summed stay below the bound, every device ends with its columns of the reference's result. -/
theorem algebraic : Cert.algebraic_KernelIdeal_ReferenceIdeal_pre_sums_below_2_24_KernelIdeal
    (hPre_sums_below_2_24_KernelIdeal := bound_facts) := fun m g m' g' hpre hargs => by
  have hs : Small m := @small_of_pre m bound_facts hpre
  refine ⟨whole (m' ((0 : Dev Cert.ReferenceIdeal.nD).tc.loc Cert.ReferenceIdeal.main_arg0)) (m' ((0 : Dev Cert.ReferenceIdeal.nD).tc.loc Cert.ReferenceIdeal.main_arg1))
    (m' ((0 : Dev Cert.ReferenceIdeal.nD).tc.loc Cert.ReferenceIdeal.main_arg2)) (m' ((0 : Dev Cert.ReferenceIdeal.nD).tc.loc Cert.ReferenceIdeal.main_arg3)), ?_, ?_⟩
  · refine (θ_run Cert.KernelIdeal.defs _ _).mono (fun r h c => ?_) (run_main (F := Ideal) m g)
    have hw := (h.1 c).1
    exact ⟨((hw 3).trans (final_out m g c)).trans
        (out_value hs c _ _ _ _ (fun i => (hargs i).1) (fun i => (hargs i).2.1) (fun i => (hargs i).2.2.1) (fun i => (hargs i).2.2.2)),
      (hw 0).trans (final_x m g c), (h.1 c).2, (hw 1).trans (final_a m g c), (hw 2).trans (final_b m g c)⟩
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, bound_facts, bound_facts_whole,
    frame_kernel, frame_kernelIdeal, fun m g _ => frame_kernelIdeal m g trivial,
    frame_referenceIdeal, fun m g _ => frame_referenceIdeal m g trivial, trivial, algebraic⟩

end Cert.Proof

end
